-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S256x20x4096 : Shape := ⟨3, ![256, 20, 4096]⟩
abbrev S_ : Shape := ⟨0, ![]⟩

class Facts : Prop where
  bcast_S_S256x20x4096 : S_.BroadcastsInDim S256x20x4096 (![] : Fin 0 → Fin S256x20x4096.rank)
  reducesTo_S256x20x4096_S_d0_1_2 : S256x20x4096.ReducesTo [0, 1, 2] S_
  h_S_ : 0 < S_.numel

variable [Facts]

def fn {F : FTy → Type} [FloatOps F] (main_arg0 : FVec F S256x20x4096 .f32) : IVec S_ 1 :=
  let main_v0 : FVec F S256x20x4096 .f32 := Host.absf main_arg0
  let main_cst : FVec F S_ .f32 := constant S_ .f32 0x7F800000#32
  let main_v1 : FVec F S256x20x4096 .f32 := broadcastInDim S256x20x4096 ![] bcast_S_S256x20x4096 main_cst
  let main_v2 : IVec S256x20x4096 1 := cmpf .olt main_v0 main_v1
  let main_c : IVec S_ 1 := constantI S_ 1 1#1
  let main_v3 : IVec S_ 1 := (fun x v => Host.reduce IntOp.andi x v reducesTo_S256x20x4096_S_d0_1_2 h_S_) main_v2 main_c
  main_v3
-- ==== Kernel.lean ====
abbrev S256x20x4096 : Shape := ⟨3, ![256, 20, 4096]⟩
abbrev S8x20x4096 : Shape := ⟨3, ![8, 20, 4096]⟩
abbrev S160x1 : Shape := ⟨2, ![160, 1]⟩
abbrev S1x4096 : Shape := ⟨2, ![1, 4096]⟩
abbrev S160x4096 : Shape := ⟨2, ![160, 4096]⟩
abbrev S20x4096 : Shape := ⟨2, ![20, 4096]⟩
abbrev S1x20x4096 : Shape := ⟨3, ![1, 20, 4096]⟩
abbrev S4096 : Shape := ⟨1, ![4096]⟩

abbrev nBuf : Space → Nat
  | .hbm => 2
  | .vmem => 4
  | .smem => 0
  | _ => 0

abbrev bufTy : (tb : Table) → Fin (tcTables nBuf tb) → BufTy
  | .hbm, ⟨0, _⟩ => ⟨S256x20x4096, .f32⟩
  | .hbm, ⟨1, _⟩ => ⟨S256x20x4096, .f32⟩
  | .local _ .vmem, ⟨0, _⟩ => ⟨S8x20x4096, .f32⟩
  | .local _ .vmem, ⟨1, _⟩ => ⟨S8x20x4096, .f32⟩
  | .local _ .vmem, ⟨2, _⟩ => ⟨S8x20x4096, .f32⟩
  | .local _ .vmem, ⟨3, _⟩ => ⟨S8x20x4096, .f32⟩
  | _, _ => ⟨S256x20x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x20x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x20x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S256x20x4096 : Shape := ⟨3, ![256, 20, 4096]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S256x4096x20 : Shape := ⟨3, ![256, 4096, 20]⟩
abbrev S1x1x1 : Shape := ⟨3, ![1, 1, 1]⟩
abbrev S256x4096 : Shape := ⟨2, ![256, 4096]⟩
abbrev S256x4096x1 : Shape := ⟨3, ![256, 4096, 1]⟩
abbrev S1x1x20 : Shape := ⟨3, ![1, 1, 20]⟩
abbrev S256x20 : Shape := ⟨2, ![256, 20]⟩
abbrev S256x20x1 : Shape := ⟨3, ![256, 20, 1]⟩

abbrev nBuf : Space → Nat
  | .hbm => 836
  | .vmem => 0
  | .smem => 0
  | _ => 0

abbrev hbmTy0_0 (i : Nat) : BufTy := match i % 128 with
  | 0 => ⟨S256x20x4096, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S2, .i64⟩
  | 16 => ⟨S_, .i64⟩
  | 17 => ⟨S2, .i64⟩
  | 18 => ⟨S2, .i64⟩
  | 19 => ⟨S_, .i64⟩
  | 20 => ⟨S2, .i64⟩
  | 21 => ⟨S2, .i64⟩
  | 22 => ⟨S2, .i32⟩
  | 23 => ⟨S2, .i32⟩
  | 24 => ⟨S_, .i32⟩
  | 25 => ⟨S_, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S256x20x4096, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2x1, .i32⟩
  | 119 => ⟨S2x1, .i32⟩
  | 120 => ⟨S2x2, .i32⟩
  | 121 => ⟨S1x2, .i32⟩
  | 122 => ⟨S2, .i32⟩
  | 123 => ⟨S1x2, .i32⟩
  | 124 => ⟨S2, .i32⟩
  | 125 => ⟨S256x4096x20, .f32⟩
  | 126 => ⟨S_, .f32⟩
  | 127 => ⟨S_, .f32⟩
  | _ => ⟨S256x20x4096, .f32⟩

abbrev hbmTy0_2 (i : Nat) : BufTy := match i % 128 with
  | 0 => ⟨S_, .f32⟩
  | 1 => ⟨S_, .f32⟩
  | 2 => ⟨S1x1x1, .f32⟩
  | 3 => ⟨S1x1x1, .f32⟩
  | 4 => ⟨S1, .i32⟩
  | 5 => ⟨S_, .i32⟩
  | 6 => ⟨S1, .i32⟩
  | 7 => ⟨S_, .i32⟩
  | 8 => ⟨S256x4096x20, .i64⟩
  | 9 => ⟨S256x4096x20, .i64⟩
  | 10 => ⟨S256x4096x20, .i64⟩
  | 11 => ⟨S_, .i64⟩
  | 12 => ⟨S256x4096x20, .i64⟩
  | 13 => ⟨S256x4096x20, .i64⟩
  | 14 => ⟨S_, .i64⟩
  | 15 => ⟨S256x4096x20, .i64⟩
  | 16 => ⟨S256x4096x20, .i64⟩
  | 17 => ⟨S_, .i64⟩
  | 18 => ⟨S256x4096x20, .i64⟩
  | 19 => ⟨S256x4096x20, .i64⟩
  | 20 => ⟨S256x4096x20, .i64⟩
  | 21 => ⟨S256x4096x20, .i64⟩
  | 22 => ⟨S_, .i64⟩
  | 23 => ⟨S256x4096x20, .i64⟩
  | 24 => ⟨S256x4096x20, .i64⟩
  | 25 => ⟨S256x4096x20, .i32⟩
  | 26 => ⟨S256x4096x20, .i32⟩
  | 27 => ⟨S_, .i32⟩
  | 28 => ⟨S_, .i32⟩
  | 29 => ⟨S_, .i32⟩
  | 30 => ⟨S256x4096x20, .i32⟩
  | 31 => ⟨S256x4096x20, .i32⟩
  | 32 => ⟨S256x4096x20, .i32⟩
  | 33 => ⟨S256x4096x20, .i32⟩
  | 34 => ⟨S256x4096x20, .i32⟩
  | 35 => ⟨S_, .i32⟩
  | 36 => ⟨S256x4096x20, .i32⟩
  | 37 => ⟨S256x4096x20, .i32⟩
  | 38 => ⟨S_, .i32⟩
  | 39 => ⟨S256x4096x20, .i32⟩
  | 40 => ⟨S256x4096x20, .i32⟩
  | 41 => ⟨S256x4096x20, .i32⟩
  | 42 => ⟨S256x4096x20, .i32⟩
  | 43 => ⟨S256x4096x20, .i32⟩
  | 44 => ⟨S_, .i32⟩
  | 45 => ⟨S256x4096x20, .i32⟩
  | 46 => ⟨S256x4096x20, .i32⟩
  | 47 => ⟨S_, .i32⟩
  | 48 => ⟨S256x4096x20, .i32⟩
  | 49 => ⟨S256x4096x20, .i32⟩
  | 50 => ⟨S256x4096x20, .i32⟩
  | 51 => ⟨S256x4096x20, .i32⟩
  | 52 => ⟨S256x4096x20, .i32⟩
  | 53 => ⟨S_, .i32⟩
  | 54 => ⟨S256x4096x20, .i32⟩
  | 55 => ⟨S256x4096x20, .i32⟩
  | 56 => ⟨S_, .i32⟩
  | 57 => ⟨S256x4096x20, .i32⟩
  | 58 => ⟨S256x4096x20, .i32⟩
  | 59 => ⟨S256x4096x20, .i32⟩
  | 60 => ⟨S256x4096x20, .i32⟩
  | 61 => ⟨S256x4096x20, .i32⟩
  | 62 => ⟨S_, .i32⟩
  | 63 => ⟨S256x4096x20, .i32⟩
  | 64 => ⟨S256x4096x20, .i32⟩
  | 65 => ⟨S_, .i32⟩
  | 66 => ⟨S256x4096x20, .i32⟩
  | 67 => ⟨S256x4096x20, .i32⟩
  | 68 => ⟨S256x4096x20, .i32⟩
  | 69 => ⟨S256x4096x20, .i32⟩
  | 70 => ⟨S256x4096x20, .i32⟩
  | 71 => ⟨S256x4096x20, .i32⟩
  | 72 => ⟨S256x4096x20, .i32⟩
  | 73 => ⟨S256x4096x20, .i32⟩
  | 74 => ⟨S_, .i32⟩
  | 75 => ⟨S256x4096x20, .i32⟩
  | 76 => ⟨S256x4096x20, .i32⟩
  | 77 => ⟨S256x4096x20, .i32⟩
  | 78 => ⟨S_, .i32⟩
  | 79 => ⟨S256x4096x20, .i32⟩
  | 80 => ⟨S256x4096x20, .i32⟩
  | 81 => ⟨S_, .i32⟩
  | 82 => ⟨S256x4096x20, .i32⟩
  | 83 => ⟨S256x4096x20, .i32⟩
  | 84 => ⟨S256x4096x20, .i32⟩
  | 85 => ⟨S256x4096x20, .i32⟩
  | 86 => ⟨S256x4096x20, .i32⟩
  | 87 => ⟨S_, .i32⟩
  | 88 => ⟨S256x4096x20, .i32⟩
  | 89 => ⟨S256x4096x20, .i32⟩
  | 90 => ⟨S_, .i32⟩
  | 91 => ⟨S256x4096x20, .i32⟩
  | 92 => ⟨S256x4096x20, .i32⟩
  | 93 => ⟨S256x4096x20, .i32⟩
  | 94 => ⟨S256x4096x20, .i32⟩
  | 95 => ⟨S256x4096x20, .i32⟩
  | 96 => ⟨S_, .i32⟩
  | 97 => ⟨S256x4096x20, .i32⟩
  | 98 => ⟨S256x4096x20, .i32⟩
  | 99 => ⟨S_, .i32⟩
  | 100 => ⟨S256x4096x20, .i32⟩
  | 101 => ⟨S256x4096x20, .i32⟩
  | 102 => ⟨S256x4096x20, .i32⟩
  | 103 => ⟨S256x4096x20, .i32⟩
  | 104 => ⟨S256x4096x20, .i32⟩
  | 105 => ⟨S_, .i32⟩
  | 106 => ⟨S256x4096x20, .i32⟩
  | 107 => ⟨S256x4096x20, .i32⟩
  | 108 => ⟨S_, .i32⟩
  | 109 => ⟨S256x4096x20, .i32⟩
  | 110 => ⟨S256x4096x20, .i32⟩
  | 111 => ⟨S256x4096x20, .i32⟩
  | 112 => ⟨S256x4096x20, .i32⟩
  | 113 => ⟨S256x4096x20, .i32⟩
  | 114 => ⟨S256x4096x20, .i32⟩
  | 115 => ⟨S256x4096x20, .i32⟩
  | 116 => ⟨S256x4096x20, .i32⟩
  | 117 => ⟨S_, .i32⟩
  | 118 => ⟨S256x4096x20, .i32⟩
  | 119 => ⟨S256x4096x20, .i32⟩
  | 120 => ⟨S256x4096x20, .i32⟩
  | 121 => ⟨S_, .i32⟩
  | 122 => ⟨S256x4096x20, .i32⟩
  | 123 => ⟨S256x4096x20, .i32⟩
  | 124 => ⟨S_, .i32⟩
  | 125 => ⟨S256x4096x20, .i32⟩
  | 126 => ⟨S256x4096x20, .i32⟩
  | 127 => ⟨S256x4096x20, .i32⟩
  | _ => ⟨S256x20x4096, .f32⟩

abbrev hbmTy0_3 (i : Nat) : BufTy := match i % 128 with
  | 0 => ⟨S256x4096x20, .i32⟩
  | 1 => ⟨S256x4096x20, .i32⟩
  | 2 => ⟨S_, .i32⟩
  | 3 => ⟨S256x4096x20, .i32⟩
  | 4 => ⟨S256x4096x20, .i32⟩
  | 5 => ⟨S_, .i32⟩
  | 6 => ⟨S256x4096x20, .i32⟩
  | 7 => ⟨S256x4096x20, .i32⟩
  | 8 => ⟨S256x4096x20, .i32⟩
  | 9 => ⟨S256x4096x20, .i32⟩
  | 10 => ⟨S256x4096x20, .i32⟩
  | 11 => ⟨S_, .i32⟩
  | 12 => ⟨S256x4096x20, .i32⟩
  | 13 => ⟨S256x4096x20, .i32⟩
  | 14 => ⟨S_, .i32⟩
  | 15 => ⟨S256x4096x20, .i32⟩
  | 16 => ⟨S256x4096x20, .i32⟩
  | 17 => ⟨S256x4096x20, .i32⟩
  | 18 => ⟨S256x4096x20, .i32⟩
  | 19 => ⟨S256x4096x20, .i32⟩
  | 20 => ⟨S_, .i32⟩
  | 21 => ⟨S256x4096x20, .i32⟩
  | 22 => ⟨S256x4096x20, .i32⟩
  | 23 => ⟨S_, .i32⟩
  | 24 => ⟨S256x4096x20, .i32⟩
  | 25 => ⟨S256x4096x20, .i32⟩
  | 26 => ⟨S256x4096x20, .i32⟩
  | 27 => ⟨S256x4096x20, .i32⟩
  | 28 => ⟨S256x4096x20, .i32⟩
  | 29 => ⟨S256x4096x20, .i32⟩
  | 30 => ⟨S256x4096x20, .i32⟩
  | 31 => ⟨S256x4096x20, .i32⟩
  | 32 => ⟨S_, .i32⟩
  | 33 => ⟨S256x4096x20, .i32⟩
  | 34 => ⟨S256x4096x20, .i32⟩
  | 35 => ⟨S256x4096x20, .i32⟩
  | 36 => ⟨S_, .i32⟩
  | 37 => ⟨S256x4096x20, .i32⟩
  | 38 => ⟨S256x4096x20, .i32⟩
  | 39 => ⟨S_, .i32⟩
  | 40 => ⟨S256x4096x20, .i32⟩
  | 41 => ⟨S256x4096x20, .i32⟩
  | 42 => ⟨S256x4096x20, .i32⟩
  | 43 => ⟨S256x4096x20, .i32⟩
  | 44 => ⟨S256x4096x20, .i32⟩
  | 45 => ⟨S_, .i32⟩
  | 46 => ⟨S256x4096x20, .i32⟩
  | 47 => ⟨S256x4096x20, .i32⟩
  | 48 => ⟨S_, .i32⟩
  | 49 => ⟨S256x4096x20, .i32⟩
  | 50 => ⟨S256x4096x20, .i32⟩
  | 51 => ⟨S256x4096x20, .i32⟩
  | 52 => ⟨S256x4096x20, .i32⟩
  | 53 => ⟨S256x4096x20, .i32⟩
  | 54 => ⟨S_, .i32⟩
  | 55 => ⟨S256x4096x20, .i32⟩
  | 56 => ⟨S256x4096x20, .i32⟩
  | 57 => ⟨S_, .i32⟩
  | 58 => ⟨S256x4096x20, .i32⟩
  | 59 => ⟨S256x4096x20, .i32⟩
  | 60 => ⟨S256x4096x20, .i32⟩
  | 61 => ⟨S256x4096x20, .i32⟩
  | 62 => ⟨S256x4096x20, .i32⟩
  | 63 => ⟨S_, .i32⟩
  | 64 => ⟨S256x4096x20, .i32⟩
  | 65 => ⟨S256x4096x20, .i32⟩
  | 66 => ⟨S_, .i32⟩
  | 67 => ⟨S256x4096x20, .i32⟩
  | 68 => ⟨S256x4096x20, .i32⟩
  | 69 => ⟨S256x4096x20, .i32⟩
  | 70 => ⟨S256x4096x20, .i32⟩
  | 71 => ⟨S256x4096x20, .i32⟩
  | 72 => ⟨S256x4096x20, .i32⟩
  | 73 => ⟨S256x4096x20, .i32⟩
  | 74 => ⟨S256x4096x20, .i32⟩
  | 75 => ⟨S_, .i32⟩
  | 76 => ⟨S256x4096x20, .i32⟩
  | 77 => ⟨S256x4096x20, .i32⟩
  | 78 => ⟨S256x4096x20, .i32⟩
  | 79 => ⟨S_, .i32⟩
  | 80 => ⟨S256x4096x20, .i32⟩
  | 81 => ⟨S256x4096x20, .i32⟩
  | 82 => ⟨S_, .i32⟩
  | 83 => ⟨S256x4096x20, .i32⟩
  | 84 => ⟨S256x4096x20, .i32⟩
  | 85 => ⟨S256x4096x20, .i32⟩
  | 86 => ⟨S256x4096x20, .i32⟩
  | 87 => ⟨S256x4096x20, .i32⟩
  | 88 => ⟨S_, .i32⟩
  | 89 => ⟨S256x4096x20, .i32⟩
  | 90 => ⟨S256x4096x20, .i32⟩
  | 91 => ⟨S_, .i32⟩
  | 92 => ⟨S256x4096x20, .i32⟩
  | 93 => ⟨S256x4096x20, .i32⟩
  | 94 => ⟨S256x4096x20, .i32⟩
  | 95 => ⟨S256x4096x20, .i32⟩
  | 96 => ⟨S256x4096x20, .i32⟩
  | 97 => ⟨S_, .i32⟩
  | 98 => ⟨S256x4096x20, .i32⟩
  | 99 => ⟨S256x4096x20, .i32⟩
  | 100 => ⟨S_, .i32⟩
  | 101 => ⟨S256x4096x20, .i32⟩
  | 102 => ⟨S256x4096x20, .i32⟩
  | 103 => ⟨S256x4096x20, .i32⟩
  | 104 => ⟨S256x4096x20, .i32⟩
  | 105 => ⟨S256x4096x20, .i32⟩
  | 106 => ⟨S_, .i32⟩
  | 107 => ⟨S256x4096x20, .i32⟩
  | 108 => ⟨S256x4096x20, .i32⟩
  | 109 => ⟨S_, .i32⟩
  | 110 => ⟨S256x4096x20, .i32⟩
  | 111 => ⟨S256x4096x20, .i32⟩
  | 112 => ⟨S256x4096x20, .i32⟩
  | 113 => ⟨S256x4096x20, .i32⟩
  | 114 => ⟨S256x4096x20, .i32⟩
  | 115 => ⟨S256x4096x20, .i32⟩
  | 116 => ⟨S256x4096x20, .i32⟩
  | 117 => ⟨S256x4096x20, .i32⟩
  | 118 => ⟨S_, .i32⟩
  | 119 => ⟨S256x4096x20, .i32⟩
  | 120 => ⟨S256x4096x20, .i32⟩
  | 121 => ⟨S256x4096x20, .i32⟩
  | 122 => ⟨S_, .i32⟩
  | 123 => ⟨S256x4096x20, .i32⟩
  | 124 => ⟨S256x4096x20, .i32⟩
  | 125 => ⟨S_, .i32⟩
  | 126 => ⟨S256x4096x20, .i32⟩
  | 127 => ⟨S256x4096x20, .i32⟩
  | _ => ⟨S256x20x4096, .f32⟩

abbrev hbmTy0_4 (i : Nat) : BufTy := match i % 128 with
  | 0 => ⟨S256x4096x20, .f32⟩
  | 1 => ⟨S_, .f32⟩
  | 2 => ⟨S256x4096x20, .f32⟩
  | 3 => ⟨S256x4096x20, .f32⟩
  | 4 => ⟨S1x1x1, .f32⟩
  | 5 => ⟨S256x4096x20, .f32⟩
  | 6 => ⟨S256x4096x20, .f32⟩
  | 7 => ⟨S256x4096x20, .f32⟩
  | 8 => ⟨S256x4096x20, .f32⟩
  | 9 => ⟨S256x4096x20, .f32⟩
  | 10 => ⟨S256x4096x20, .f32⟩
  | 11 => ⟨S_, .f32⟩
  | 12 => ⟨S256x4096x20, .f32⟩
  | 13 => ⟨S256x4096x20, .f32⟩
  | 14 => ⟨S256x4096x20, .f32⟩
  | 15 => ⟨S256x4096x20, .f32⟩
  | 16 => ⟨S256x4096x20, .f32⟩
  | 17 => ⟨S256x4096x20, .f32⟩
  | 18 => ⟨S256x4096x20, .f32⟩
  | 19 => ⟨S256x4096x20, .i32⟩
  | 20 => ⟨S_, .f32⟩
  | 21 => ⟨S_, .i32⟩
  | 22 => ⟨S256x4096, .f32⟩
  | 23 => ⟨S256x4096, .i32⟩
  | 24 => ⟨S256x4096x1, .i32⟩
  | 25 => ⟨S1x1x20, .i32⟩
  | 26 => ⟨S256x4096x20, .i32⟩
  | 27 => ⟨S256x4096x20, .i32⟩
  | 28 => ⟨S256x4096x20, .i1⟩
  | 29 => ⟨S256x4096x20, .f32⟩
  | 30 => ⟨S256x20x4096, .f32⟩
  | 31 => ⟨S_, .f32⟩
  | 32 => ⟨S_, .f32⟩
  | 33 => ⟨S_, .f32⟩
  | 34 => ⟨S_, .f32⟩
  | 35 => ⟨S1x1x1, .f32⟩
  | 36 => ⟨S1x1x1, .f32⟩
  | 37 => ⟨S1, .i32⟩
  | 38 => ⟨S_, .i32⟩
  | 39 => ⟨S1, .i32⟩
  | 40 => ⟨S_, .i32⟩
  | 41 => ⟨S256x20x4096, .i64⟩
  | 42 => ⟨S256x20x4096, .i64⟩
  | 43 => ⟨S256x20x4096, .i64⟩
  | 44 => ⟨S_, .i64⟩
  | 45 => ⟨S256x20x4096, .i64⟩
  | 46 => ⟨S256x20x4096, .i64⟩
  | 47 => ⟨S_, .i64⟩
  | 48 => ⟨S256x20x4096, .i64⟩
  | 49 => ⟨S256x20x4096, .i64⟩
  | 50 => ⟨S_, .i64⟩
  | 51 => ⟨S256x20x4096, .i64⟩
  | 52 => ⟨S256x20x4096, .i64⟩
  | 53 => ⟨S256x20x4096, .i64⟩
  | 54 => ⟨S256x20x4096, .i64⟩
  | 55 => ⟨S_, .i64⟩
  | 56 => ⟨S256x20x4096, .i64⟩
  | 57 => ⟨S256x20x4096, .i64⟩
  | 58 => ⟨S256x20x4096, .i32⟩
  | 59 => ⟨S256x20x4096, .i32⟩
  | 60 => ⟨S_, .i32⟩
  | 61 => ⟨S_, .i32⟩
  | 62 => ⟨S_, .i32⟩
  | 63 => ⟨S256x20x4096, .i32⟩
  | 64 => ⟨S256x20x4096, .i32⟩
  | 65 => ⟨S256x20x4096, .i32⟩
  | 66 => ⟨S256x20x4096, .i32⟩
  | 67 => ⟨S256x20x4096, .i32⟩
  | 68 => ⟨S_, .i32⟩
  | 69 => ⟨S256x20x4096, .i32⟩
  | 70 => ⟨S256x20x4096, .i32⟩
  | 71 => ⟨S_, .i32⟩
  | 72 => ⟨S256x20x4096, .i32⟩
  | 73 => ⟨S256x20x4096, .i32⟩
  | 74 => ⟨S256x20x4096, .i32⟩
  | 75 => ⟨S256x20x4096, .i32⟩
  | 76 => ⟨S256x20x4096, .i32⟩
  | 77 => ⟨S_, .i32⟩
  | 78 => ⟨S256x20x4096, .i32⟩
  | 79 => ⟨S256x20x4096, .i32⟩
  | 80 => ⟨S_, .i32⟩
  | 81 => ⟨S256x20x4096, .i32⟩
  | 82 => ⟨S256x20x4096, .i32⟩
  | 83 => ⟨S256x20x4096, .i32⟩
  | 84 => ⟨S256x20x4096, .i32⟩
  | 85 => ⟨S256x20x4096, .i32⟩
  | 86 => ⟨S_, .i32⟩
  | 87 => ⟨S256x20x4096, .i32⟩
  | 88 => ⟨S256x20x4096, .i32⟩
  | 89 => ⟨S_, .i32⟩
  | 90 => ⟨S256x20x4096, .i32⟩
  | 91 => ⟨S256x20x4096, .i32⟩
  | 92 => ⟨S256x20x4096, .i32⟩
  | 93 => ⟨S256x20x4096, .i32⟩
  | 94 => ⟨S256x20x4096, .i32⟩
  | 95 => ⟨S_, .i32⟩
  | 96 => ⟨S256x20x4096, .i32⟩
  | 97 => ⟨S256x20x4096, .i32⟩
  | 98 => ⟨S_, .i32⟩
  | 99 => ⟨S256x20x4096, .i32⟩
  | 100 => ⟨S256x20x4096, .i32⟩
  | 101 => ⟨S256x20x4096, .i32⟩
  | 102 => ⟨S256x20x4096, .i32⟩
  | 103 => ⟨S256x20x4096, .i32⟩
  | 104 => ⟨S256x20x4096, .i32⟩
  | 105 => ⟨S256x20x4096, .i32⟩
  | 106 => ⟨S256x20x4096, .i32⟩
  | 107 => ⟨S_, .i32⟩
  | 108 => ⟨S256x20x4096, .i32⟩
  | 109 => ⟨S256x20x4096, .i32⟩
  | 110 => ⟨S256x20x4096, .i32⟩
  | 111 => ⟨S_, .i32⟩
  | 112 => ⟨S256x20x4096, .i32⟩
  | 113 => ⟨S256x20x4096, .i32⟩
  | 114 => ⟨S_, .i32⟩
  | 115 => ⟨S256x20x4096, .i32⟩
  | 116 => ⟨S256x20x4096, .i32⟩
  | 117 => ⟨S256x20x4096, .i32⟩
  | 118 => ⟨S256x20x4096, .i32⟩
  | 119 => ⟨S256x20x4096, .i32⟩
  | 120 => ⟨S_, .i32⟩
  | 121 => ⟨S256x20x4096, .i32⟩
  | 122 => ⟨S256x20x4096, .i32⟩
  | 123 => ⟨S_, .i32⟩
  | 124 => ⟨S256x20x4096, .i32⟩
  | 125 => ⟨S256x20x4096, .i32⟩
  | 126 => ⟨S256x20x4096, .i32⟩
  | 127 => ⟨S256x20x4096, .i32⟩
  | _ => ⟨S256x20x4096, .f32⟩

abbrev hbmTy0_5 (i : Nat) : BufTy := match i % 128 with
  | 0 => ⟨S256x20x4096, .i32⟩
  | 1 => ⟨S_, .i32⟩
  | 2 => ⟨S256x20x4096, .i32⟩
  | 3 => ⟨S256x20x4096, .i32⟩
  | 4 => ⟨S_, .i32⟩
  | 5 => ⟨S256x20x4096, .i32⟩
  | 6 => ⟨S256x20x4096, .i32⟩
  | 7 => ⟨S256x20x4096, .i32⟩
  | 8 => ⟨S256x20x4096, .i32⟩
  | 9 => ⟨S256x20x4096, .i32⟩
  | 10 => ⟨S_, .i32⟩
  | 11 => ⟨S256x20x4096, .i32⟩
  | 12 => ⟨S256x20x4096, .i32⟩
  | 13 => ⟨S_, .i32⟩
  | 14 => ⟨S256x20x4096, .i32⟩
  | 15 => ⟨S256x20x4096, .i32⟩
  | 16 => ⟨S256x20x4096, .i32⟩
  | 17 => ⟨S256x20x4096, .i32⟩
  | 18 => ⟨S256x20x4096, .i32⟩
  | 19 => ⟨S256x20x4096, .i32⟩
  | 20 => ⟨S256x20x4096, .i32⟩
  | 21 => ⟨S256x20x4096, .i32⟩
  | 22 => ⟨S_, .i32⟩
  | 23 => ⟨S256x20x4096, .i32⟩
  | 24 => ⟨S256x20x4096, .i32⟩
  | 25 => ⟨S256x20x4096, .i32⟩
  | 26 => ⟨S_, .i32⟩
  | 27 => ⟨S256x20x4096, .i32⟩
  | 28 => ⟨S256x20x4096, .i32⟩
  | 29 => ⟨S_, .i32⟩
  | 30 => ⟨S256x20x4096, .i32⟩
  | 31 => ⟨S256x20x4096, .i32⟩
  | 32 => ⟨S256x20x4096, .i32⟩
  | 33 => ⟨S256x20x4096, .i32⟩
  | 34 => ⟨S256x20x4096, .i32⟩
  | 35 => ⟨S_, .i32⟩
  | 36 => ⟨S256x20x4096, .i32⟩
  | 37 => ⟨S256x20x4096, .i32⟩
  | 38 => ⟨S_, .i32⟩
  | 39 => ⟨S256x20x4096, .i32⟩
  | 40 => ⟨S256x20x4096, .i32⟩
  | 41 => ⟨S256x20x4096, .i32⟩
  | 42 => ⟨S256x20x4096, .i32⟩
  | 43 => ⟨S256x20x4096, .i32⟩
  | 44 => ⟨S_, .i32⟩
  | 45 => ⟨S256x20x4096, .i32⟩
  | 46 => ⟨S256x20x4096, .i32⟩
  | 47 => ⟨S_, .i32⟩
  | 48 => ⟨S256x20x4096, .i32⟩
  | 49 => ⟨S256x20x4096, .i32⟩
  | 50 => ⟨S256x20x4096, .i32⟩
  | 51 => ⟨S256x20x4096, .i32⟩
  | 52 => ⟨S256x20x4096, .i32⟩
  | 53 => ⟨S_, .i32⟩
  | 54 => ⟨S256x20x4096, .i32⟩
  | 55 => ⟨S256x20x4096, .i32⟩
  | 56 => ⟨S_, .i32⟩
  | 57 => ⟨S256x20x4096, .i32⟩
  | 58 => ⟨S256x20x4096, .i32⟩
  | 59 => ⟨S256x20x4096, .i32⟩
  | 60 => ⟨S256x20x4096, .i32⟩
  | 61 => ⟨S256x20x4096, .i32⟩
  | 62 => ⟨S256x20x4096, .i32⟩
  | 63 => ⟨S256x20x4096, .i32⟩
  | 64 => ⟨S256x20x4096, .i32⟩
  | 65 => ⟨S_, .i32⟩
  | 66 => ⟨S256x20x4096, .i32⟩
  | 67 => ⟨S256x20x4096, .i32⟩
  | 68 => ⟨S256x20x4096, .i32⟩
  | 69 => ⟨S_, .i32⟩
  | 70 => ⟨S256x20x4096, .i32⟩
  | 71 => ⟨S256x20x4096, .i32⟩
  | 72 => ⟨S_, .i32⟩
  | 73 => ⟨S256x20x4096, .i32⟩
  | 74 => ⟨S256x20x4096, .i32⟩
  | 75 => ⟨S256x20x4096, .i32⟩
  | 76 => ⟨S256x20x4096, .i32⟩
  | 77 => ⟨S256x20x4096, .i32⟩
  | 78 => ⟨S_, .i32⟩
  | 79 => ⟨S256x20x4096, .i32⟩
  | 80 => ⟨S256x20x4096, .i32⟩
  | 81 => ⟨S_, .i32⟩
  | 82 => ⟨S256x20x4096, .i32⟩
  | 83 => ⟨S256x20x4096, .i32⟩
  | 84 => ⟨S256x20x4096, .i32⟩
  | 85 => ⟨S256x20x4096, .i32⟩
  | 86 => ⟨S256x20x4096, .i32⟩
  | 87 => ⟨S_, .i32⟩
  | 88 => ⟨S256x20x4096, .i32⟩
  | 89 => ⟨S256x20x4096, .i32⟩
  | 90 => ⟨S_, .i32⟩
  | 91 => ⟨S256x20x4096, .i32⟩
  | 92 => ⟨S256x20x4096, .i32⟩
  | 93 => ⟨S256x20x4096, .i32⟩
  | 94 => ⟨S256x20x4096, .i32⟩
  | 95 => ⟨S256x20x4096, .i32⟩
  | 96 => ⟨S_, .i32⟩
  | 97 => ⟨S256x20x4096, .i32⟩
  | 98 => ⟨S256x20x4096, .i32⟩
  | 99 => ⟨S_, .i32⟩
  | 100 => ⟨S256x20x4096, .i32⟩
  | 101 => ⟨S256x20x4096, .i32⟩
  | 102 => ⟨S256x20x4096, .i32⟩
  | 103 => ⟨S256x20x4096, .i32⟩
  | 104 => ⟨S256x20x4096, .i32⟩
  | 105 => ⟨S256x20x4096, .i32⟩
  | 106 => ⟨S256x20x4096, .i32⟩
  | 107 => ⟨S256x20x4096, .i32⟩
  | 108 => ⟨S_, .i32⟩
  | 109 => ⟨S256x20x4096, .i32⟩
  | 110 => ⟨S256x20x4096, .i32⟩
  | 111 => ⟨S256x20x4096, .i32⟩
  | 112 => ⟨S_, .i32⟩
  | 113 => ⟨S256x20x4096, .i32⟩
  | 114 => ⟨S256x20x4096, .i32⟩
  | 115 => ⟨S_, .i32⟩
  | 116 => ⟨S256x20x4096, .i32⟩
  | 117 => ⟨S256x20x4096, .i32⟩
  | 118 => ⟨S256x20x4096, .i32⟩
  | 119 => ⟨S256x20x4096, .i32⟩
  | 120 => ⟨S256x20x4096, .i32⟩
  | 121 => ⟨S_, .i32⟩
  | 122 => ⟨S256x20x4096, .i32⟩
  | 123 => ⟨S256x20x4096, .i32⟩
  | 124 => ⟨S_, .i32⟩
  | 125 => ⟨S256x20x4096, .i32⟩
  | 126 => ⟨S256x20x4096, .i32⟩
  | 127 => ⟨S256x20x4096, .i32⟩
  | _ => ⟨S256x20x4096, .f32⟩

abbrev hbmTy0_6 (i : Nat) : BufTy := match i % 128 with
  | 0 => ⟨S256x20x4096, .i32⟩
  | 1 => ⟨S256x20x4096, .i32⟩
  | 2 => ⟨S_, .i32⟩
  | 3 => ⟨S256x20x4096, .i32⟩
  | 4 => ⟨S256x20x4096, .i32⟩
  | 5 => ⟨S_, .i32⟩
  | 6 => ⟨S256x20x4096, .i32⟩
  | 7 => ⟨S256x20x4096, .i32⟩
  | 8 => ⟨S256x20x4096, .i32⟩
  | 9 => ⟨S256x20x4096, .i32⟩
  | 10 => ⟨S256x20x4096, .i32⟩
  | 11 => ⟨S_, .i32⟩
  | 12 => ⟨S256x20x4096, .i32⟩
  | 13 => ⟨S256x20x4096, .i32⟩
  | 14 => ⟨S_, .i32⟩
  | 15 => ⟨S256x20x4096, .i32⟩
  | 16 => ⟨S256x20x4096, .i32⟩
  | 17 => ⟨S256x20x4096, .i32⟩
  | 18 => ⟨S256x20x4096, .i32⟩
  | 19 => ⟨S256x20x4096, .i32⟩
  | 20 => ⟨S256x20x4096, .i32⟩
  | 21 => ⟨S256x20x4096, .i32⟩
  | 22 => ⟨S256x20x4096, .i32⟩
  | 23 => ⟨S_, .i32⟩
  | 24 => ⟨S256x20x4096, .i32⟩
  | 25 => ⟨S256x20x4096, .i32⟩
  | 26 => ⟨S256x20x4096, .i32⟩
  | 27 => ⟨S_, .i32⟩
  | 28 => ⟨S256x20x4096, .i32⟩
  | 29 => ⟨S256x20x4096, .i32⟩
  | 30 => ⟨S_, .i32⟩
  | 31 => ⟨S256x20x4096, .i32⟩
  | 32 => ⟨S256x20x4096, .i32⟩
  | 33 => ⟨S256x20x4096, .f32⟩
  | 34 => ⟨S_, .f32⟩
  | 35 => ⟨S256x20x4096, .f32⟩
  | 36 => ⟨S256x20x4096, .f32⟩
  | 37 => ⟨S1x1x1, .f32⟩
  | 38 => ⟨S256x20x4096, .f32⟩
  | 39 => ⟨S256x20x4096, .f32⟩
  | 40 => ⟨S256x20x4096, .f32⟩
  | 41 => ⟨S256x20x4096, .f32⟩
  | 42 => ⟨S256x20x4096, .f32⟩
  | 43 => ⟨S256x20x4096, .f32⟩
  | 44 => ⟨S256x20x4096, .f32⟩
  | 45 => ⟨S256x20x4096, .f32⟩
  | 46 => ⟨S256x20x4096, .f32⟩
  | 47 => ⟨S256x20x4096, .f32⟩
  | 48 => ⟨S256x20x4096, .f32⟩
  | 49 => ⟨S_, .f32⟩
  | 50 => ⟨S256x20x4096, .f32⟩
  | 51 => ⟨S256x20x4096, .f32⟩
  | 52 => ⟨S_, .f32⟩
  | 53 => ⟨S256x20, .f32⟩
  | 54 => ⟨S_, .f32⟩
  | 55 => ⟨S256x20, .f32⟩
  | 56 => ⟨S256x20, .f32⟩
  | 57 => ⟨S256x20x1, .f32⟩
  | 58 => ⟨S256x20x4096, .f32⟩
  | 59 => ⟨S256x20x4096, .f32⟩
  | 60 => ⟨S256x20x4096, .f32⟩
  | 61 => ⟨S_, .f32⟩
  | 62 => ⟨S256x20, .f32⟩
  | 63 => ⟨S256x20x1, .f32⟩
  | 64 => ⟨S256x20x4096, .f32⟩
  | 65 => ⟨S256x20x4096, .f32⟩
  | 66 => ⟨S256x20x4096, .f32⟩
  | 67 => ⟨S256x20x4096, .f32⟩
  | _ => ⟨S256x20x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S256x20x4096, .f32⟩

abbrev bufTy : (tb : Table) → Fin (tcTables nBuf tb) → BufTy
  | .hbm, ⟨i, _⟩ => hbmTy i
  | _, _ => ⟨S256x20x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c : Ref sig .tc := ⟨.hbm, 16, rfl⟩
abbrev main_call0_v5 : Ref sig .tc := ⟨.hbm, 17, rfl⟩
abbrev main_call0_v6 : Ref sig .tc := ⟨.hbm, 18, rfl⟩
abbrev main_call0_c_0 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_call0_v0 : Ref sig .tc := ⟨.hbm, 24, rfl⟩
abbrev main_call0_call0_c : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_c_0 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_c_1 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_c_2 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_c_3 : Ref sig .tc := ⟨.hbm, 44, rfl⟩
abbrev main_call0_call0_v16 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_c_4 : Ref sig .tc := ⟨.hbm, 50, rfl⟩
abbrev main_call0_call0_v21 : Ref sig .tc := ⟨.hbm, 51, rfl⟩
abbrev main_call0_call0_v22 : Ref sig .tc := ⟨.hbm, 52, rfl⟩
abbrev main_call0_call0_c_5 : Ref sig .tc := ⟨.hbm, 53, rfl⟩
abbrev main_call0_call0_v23 : Ref sig .tc := ⟨.hbm, 54, rfl⟩
abbrev main_call0_call0_v24 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_v27 : Ref sig .tc := ⟨.hbm, 58, rfl⟩
abbrev main_call0_call0_c_6 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_c_7 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_v32 : Ref sig .tc := ⟨.hbm, 65, rfl⟩
abbrev main_call0_call0_v33 : Ref sig .tc := ⟨.hbm, 66, rfl⟩
abbrev main_call0_call0_v34 : Ref sig .tc := ⟨.hbm, 67, rfl⟩
abbrev main_call0_call0_v35 : Ref sig .tc := ⟨.hbm, 68, rfl⟩
abbrev main_call0_call0_v36 : Ref sig .tc := ⟨.hbm, 69, rfl⟩
abbrev main_call0_call0_v37 : Ref sig .tc := ⟨.hbm, 70, rfl⟩
abbrev main_call0_call0_c_8 : Ref sig .tc := ⟨.hbm, 71, rfl⟩
abbrev main_call0_call0_v38 : Ref sig .tc := ⟨.hbm, 72, rfl⟩
abbrev main_call0_call0_v39 : Ref sig .tc := ⟨.hbm, 73, rfl⟩
abbrev main_call0_call0_v40 : Ref sig .tc := ⟨.hbm, 74, rfl⟩
abbrev main_call0_call0_c_9 : Ref sig .tc := ⟨.hbm, 75, rfl⟩
abbrev main_call0_call0_v41 : Ref sig .tc := ⟨.hbm, 76, rfl⟩
abbrev main_call0_call0_v42 : Ref sig .tc := ⟨.hbm, 77, rfl⟩
abbrev main_call0_call0_c_10 : Ref sig .tc := ⟨.hbm, 78, rfl⟩
abbrev main_call0_call0_v43 : Ref sig .tc := ⟨.hbm, 79, rfl⟩
abbrev main_call0_call0_v44 : Ref sig .tc := ⟨.hbm, 80, rfl⟩
abbrev main_call0_call0_v45 : Ref sig .tc := ⟨.hbm, 81, rfl⟩
abbrev main_call0_call0_v46 : Ref sig .tc := ⟨.hbm, 82, rfl⟩
abbrev main_call0_call0_v47 : Ref sig .tc := ⟨.hbm, 83, rfl⟩
abbrev main_call0_call0_c_11 : Ref sig .tc := ⟨.hbm, 84, rfl⟩
abbrev main_call0_call0_v48 : Ref sig .tc := ⟨.hbm, 85, rfl⟩
abbrev main_call0_call0_v49 : Ref sig .tc := ⟨.hbm, 86, rfl⟩
abbrev main_call0_call0_c_12 : Ref sig .tc := ⟨.hbm, 87, rfl⟩
abbrev main_call0_call0_v50 : Ref sig .tc := ⟨.hbm, 88, rfl⟩
abbrev main_call0_call0_v51 : Ref sig .tc := ⟨.hbm, 89, rfl⟩
abbrev main_call0_call0_v52 : Ref sig .tc := ⟨.hbm, 90, rfl⟩
abbrev main_call0_call0_v53 : Ref sig .tc := ⟨.hbm, 91, rfl⟩
abbrev main_call0_call0_v54 : Ref sig .tc := ⟨.hbm, 92, rfl⟩
abbrev main_call0_call0_c_13 : Ref sig .tc := ⟨.hbm, 93, rfl⟩
abbrev main_call0_call0_v55 : Ref sig .tc := ⟨.hbm, 94, rfl⟩
abbrev main_call0_call0_v56 : Ref sig .tc := ⟨.hbm, 95, rfl⟩
abbrev main_call0_call0_c_14 : Ref sig .tc := ⟨.hbm, 96, rfl⟩
abbrev main_call0_call0_v57 : Ref sig .tc := ⟨.hbm, 97, rfl⟩
abbrev main_call0_call0_v58 : Ref sig .tc := ⟨.hbm, 98, rfl⟩
abbrev main_call0_call0_v59 : Ref sig .tc := ⟨.hbm, 99, rfl⟩
abbrev main_call0_call0_v60 : Ref sig .tc := ⟨.hbm, 100, rfl⟩
abbrev main_call0_call0_v61 : Ref sig .tc := ⟨.hbm, 101, rfl⟩
abbrev main_call0_call0_c_15 : Ref sig .tc := ⟨.hbm, 102, rfl⟩
abbrev main_call0_call0_v62 : Ref sig .tc := ⟨.hbm, 103, rfl⟩
abbrev main_call0_call0_v63 : Ref sig .tc := ⟨.hbm, 104, rfl⟩
abbrev main_call0_call0_c_16 : Ref sig .tc := ⟨.hbm, 105, rfl⟩
abbrev main_call0_call0_v64 : Ref sig .tc := ⟨.hbm, 106, rfl⟩
abbrev main_call0_call0_v65 : Ref sig .tc := ⟨.hbm, 107, rfl⟩
abbrev main_call0_call0_v66 : Ref sig .tc := ⟨.hbm, 108, rfl⟩
abbrev main_call0_call0_v67 : Ref sig .tc := ⟨.hbm, 109, rfl⟩
abbrev main_call0_call0_v68 : Ref sig .tc := ⟨.hbm, 110, rfl⟩
abbrev main_call0_call0_v69 : Ref sig .tc := ⟨.hbm, 111, rfl⟩
abbrev main_call0_call0_v70 : Ref sig .tc := ⟨.hbm, 112, rfl⟩
abbrev main_call0_call0_v71 : Ref sig .tc := ⟨.hbm, 113, rfl⟩
abbrev main_call0_call0_c_17 : Ref sig .tc := ⟨.hbm, 114, rfl⟩
abbrev main_call0_call0_v72 : Ref sig .tc := ⟨.hbm, 115, rfl⟩
abbrev main_call0_call0_v73 : Ref sig .tc := ⟨.hbm, 116, rfl⟩
abbrev main_call0_call0_v74 : Ref sig .tc := ⟨.hbm, 117, rfl⟩
abbrev main_call0_call0_c_18 : Ref sig .tc := ⟨.hbm, 118, rfl⟩
abbrev main_call0_call0_v75 : Ref sig .tc := ⟨.hbm, 119, rfl⟩
abbrev main_call0_call0_v76 : Ref sig .tc := ⟨.hbm, 120, rfl⟩
abbrev main_call0_call0_c_19 : Ref sig .tc := ⟨.hbm, 121, rfl⟩
abbrev main_call0_call0_v77 : Ref sig .tc := ⟨.hbm, 122, rfl⟩
abbrev main_call0_call0_v78 : Ref sig .tc := ⟨.hbm, 123, rfl⟩
abbrev main_call0_call0_v79 : Ref sig .tc := ⟨.hbm, 124, rfl⟩
abbrev main_call0_call0_v80 : Ref sig .tc := ⟨.hbm, 125, rfl⟩
abbrev main_call0_call0_v81 : Ref sig .tc := ⟨.hbm, 126, rfl⟩
abbrev main_call0_call0_c_20 : Ref sig .tc := ⟨.hbm, 127, rfl⟩
abbrev main_call0_call0_v82 : Ref sig .tc := ⟨.hbm, 128, rfl⟩
abbrev main_call0_call0_v83 : Ref sig .tc := ⟨.hbm, 129, rfl⟩
abbrev main_call0_call0_c_21 : Ref sig .tc := ⟨.hbm, 130, rfl⟩
abbrev main_call0_call0_v84 : Ref sig .tc := ⟨.hbm, 131, rfl⟩
abbrev main_call0_call0_v85 : Ref sig .tc := ⟨.hbm, 132, rfl⟩
abbrev main_call0_call0_v86 : Ref sig .tc := ⟨.hbm, 133, rfl⟩
abbrev main_call0_call0_v87 : Ref sig .tc := ⟨.hbm, 134, rfl⟩
abbrev main_call0_call0_v88 : Ref sig .tc := ⟨.hbm, 135, rfl⟩
abbrev main_call0_call0_c_22 : Ref sig .tc := ⟨.hbm, 136, rfl⟩
abbrev main_call0_call0_v89 : Ref sig .tc := ⟨.hbm, 137, rfl⟩
abbrev main_call0_call0_v90 : Ref sig .tc := ⟨.hbm, 138, rfl⟩
abbrev main_call0_call0_c_23 : Ref sig .tc := ⟨.hbm, 139, rfl⟩
abbrev main_call0_call0_v91 : Ref sig .tc := ⟨.hbm, 140, rfl⟩
abbrev main_call0_call0_v92 : Ref sig .tc := ⟨.hbm, 141, rfl⟩
abbrev main_call0_call0_v93 : Ref sig .tc := ⟨.hbm, 142, rfl⟩
abbrev main_call0_call0_v94 : Ref sig .tc := ⟨.hbm, 143, rfl⟩
abbrev main_call0_call0_v95 : Ref sig .tc := ⟨.hbm, 144, rfl⟩
abbrev main_call0_call0_c_24 : Ref sig .tc := ⟨.hbm, 145, rfl⟩
abbrev main_call0_call0_v96 : Ref sig .tc := ⟨.hbm, 146, rfl⟩
abbrev main_call0_call0_v97 : Ref sig .tc := ⟨.hbm, 147, rfl⟩
abbrev main_call0_call0_c_25 : Ref sig .tc := ⟨.hbm, 148, rfl⟩
abbrev main_call0_call0_v98 : Ref sig .tc := ⟨.hbm, 149, rfl⟩
abbrev main_call0_call0_v99 : Ref sig .tc := ⟨.hbm, 150, rfl⟩
abbrev main_call0_call0_v100 : Ref sig .tc := ⟨.hbm, 151, rfl⟩
abbrev main_call0_call0_v101 : Ref sig .tc := ⟨.hbm, 152, rfl⟩
abbrev main_call0_call0_v102 : Ref sig .tc := ⟨.hbm, 153, rfl⟩
abbrev main_call0_call0_v103 : Ref sig .tc := ⟨.hbm, 154, rfl⟩
abbrev main_call0_call0_v104 : Ref sig .tc := ⟨.hbm, 155, rfl⟩
abbrev main_call0_call0_v105 : Ref sig .tc := ⟨.hbm, 156, rfl⟩
abbrev main_call0_call0_c_26 : Ref sig .tc := ⟨.hbm, 157, rfl⟩
abbrev main_call0_call0_v106 : Ref sig .tc := ⟨.hbm, 158, rfl⟩
abbrev main_call0_call0_v107 : Ref sig .tc := ⟨.hbm, 159, rfl⟩
abbrev main_call0_call0_v108 : Ref sig .tc := ⟨.hbm, 160, rfl⟩
abbrev main_call0_call0_c_27 : Ref sig .tc := ⟨.hbm, 161, rfl⟩
abbrev main_call0_call0_v109 : Ref sig .tc := ⟨.hbm, 162, rfl⟩
abbrev main_call0_call0_v110 : Ref sig .tc := ⟨.hbm, 163, rfl⟩
abbrev main_call0_call0_c_28 : Ref sig .tc := ⟨.hbm, 164, rfl⟩
abbrev main_call0_call0_v111 : Ref sig .tc := ⟨.hbm, 165, rfl⟩
abbrev main_call0_call0_v112 : Ref sig .tc := ⟨.hbm, 166, rfl⟩
abbrev main_call0_call0_v113 : Ref sig .tc := ⟨.hbm, 167, rfl⟩
abbrev main_call0_call0_v114 : Ref sig .tc := ⟨.hbm, 168, rfl⟩
abbrev main_call0_call0_v115 : Ref sig .tc := ⟨.hbm, 169, rfl⟩
abbrev main_call0_call0_c_29 : Ref sig .tc := ⟨.hbm, 170, rfl⟩
abbrev main_call0_call0_v116 : Ref sig .tc := ⟨.hbm, 171, rfl⟩
abbrev main_call0_call0_v117 : Ref sig .tc := ⟨.hbm, 172, rfl⟩
abbrev main_call0_call0_c_30 : Ref sig .tc := ⟨.hbm, 173, rfl⟩
abbrev main_call0_call0_v118 : Ref sig .tc := ⟨.hbm, 174, rfl⟩
abbrev main_call0_call0_v119 : Ref sig .tc := ⟨.hbm, 175, rfl⟩
abbrev main_call0_call0_v120 : Ref sig .tc := ⟨.hbm, 176, rfl⟩
abbrev main_call0_call0_v121 : Ref sig .tc := ⟨.hbm, 177, rfl⟩
abbrev main_call0_call0_v122 : Ref sig .tc := ⟨.hbm, 178, rfl⟩
abbrev main_call0_call0_c_31 : Ref sig .tc := ⟨.hbm, 179, rfl⟩
abbrev main_call0_call0_v123 : Ref sig .tc := ⟨.hbm, 180, rfl⟩
abbrev main_call0_call0_v124 : Ref sig .tc := ⟨.hbm, 181, rfl⟩
abbrev main_call0_call0_c_32 : Ref sig .tc := ⟨.hbm, 182, rfl⟩
abbrev main_call0_call0_v125 : Ref sig .tc := ⟨.hbm, 183, rfl⟩
abbrev main_call0_call0_v126 : Ref sig .tc := ⟨.hbm, 184, rfl⟩
abbrev main_call0_call0_v127 : Ref sig .tc := ⟨.hbm, 185, rfl⟩
abbrev main_call0_call0_v128 : Ref sig .tc := ⟨.hbm, 186, rfl⟩
abbrev main_call0_call0_v129 : Ref sig .tc := ⟨.hbm, 187, rfl⟩
abbrev main_call0_call0_c_33 : Ref sig .tc := ⟨.hbm, 188, rfl⟩
abbrev main_call0_call0_v130 : Ref sig .tc := ⟨.hbm, 189, rfl⟩
abbrev main_call0_call0_v131 : Ref sig .tc := ⟨.hbm, 190, rfl⟩
abbrev main_call0_call0_c_34 : Ref sig .tc := ⟨.hbm, 191, rfl⟩
abbrev main_call0_call0_v132 : Ref sig .tc := ⟨.hbm, 192, rfl⟩
abbrev main_call0_call0_v133 : Ref sig .tc := ⟨.hbm, 193, rfl⟩
abbrev main_call0_call0_v134 : Ref sig .tc := ⟨.hbm, 194, rfl⟩
abbrev main_call0_call0_v135 : Ref sig .tc := ⟨.hbm, 195, rfl⟩
abbrev main_call0_call0_v136 : Ref sig .tc := ⟨.hbm, 196, rfl⟩
abbrev main_call0_call0_v137 : Ref sig .tc := ⟨.hbm, 197, rfl⟩
abbrev main_call0_call0_v138 : Ref sig .tc := ⟨.hbm, 198, rfl⟩
abbrev main_call0_call0_v139 : Ref sig .tc := ⟨.hbm, 199, rfl⟩
abbrev main_call0_call0_c_35 : Ref sig .tc := ⟨.hbm, 200, rfl⟩
abbrev main_call0_call0_v140 : Ref sig .tc := ⟨.hbm, 201, rfl⟩
abbrev main_call0_call0_v141 : Ref sig .tc := ⟨.hbm, 202, rfl⟩
abbrev main_call0_call0_v142 : Ref sig .tc := ⟨.hbm, 203, rfl⟩
abbrev main_call0_call0_c_36 : Ref sig .tc := ⟨.hbm, 204, rfl⟩
abbrev main_call0_call0_v143 : Ref sig .tc := ⟨.hbm, 205, rfl⟩
abbrev main_call0_call0_v144 : Ref sig .tc := ⟨.hbm, 206, rfl⟩
abbrev main_call0_call0_c_37 : Ref sig .tc := ⟨.hbm, 207, rfl⟩
abbrev main_call0_call0_v145 : Ref sig .tc := ⟨.hbm, 208, rfl⟩
abbrev main_call0_call0_v146 : Ref sig .tc := ⟨.hbm, 209, rfl⟩
abbrev main_call0_call0_v147 : Ref sig .tc := ⟨.hbm, 210, rfl⟩
abbrev main_call0_call0_v148 : Ref sig .tc := ⟨.hbm, 211, rfl⟩
abbrev main_call0_call0_v149 : Ref sig .tc := ⟨.hbm, 212, rfl⟩
abbrev main_call0_call0_c_38 : Ref sig .tc := ⟨.hbm, 213, rfl⟩
abbrev main_call0_call0_v150 : Ref sig .tc := ⟨.hbm, 214, rfl⟩
abbrev main_call0_call0_v151 : Ref sig .tc := ⟨.hbm, 215, rfl⟩
abbrev main_call0_call0_c_39 : Ref sig .tc := ⟨.hbm, 216, rfl⟩
abbrev main_call0_call0_v152 : Ref sig .tc := ⟨.hbm, 217, rfl⟩
abbrev main_call0_call0_v153 : Ref sig .tc := ⟨.hbm, 218, rfl⟩
abbrev main_call0_call0_v154 : Ref sig .tc := ⟨.hbm, 219, rfl⟩
abbrev main_call0_call0_v155 : Ref sig .tc := ⟨.hbm, 220, rfl⟩
abbrev main_call0_call0_v156 : Ref sig .tc := ⟨.hbm, 221, rfl⟩
abbrev main_call0_call0_c_40 : Ref sig .tc := ⟨.hbm, 222, rfl⟩
abbrev main_call0_call0_v157 : Ref sig .tc := ⟨.hbm, 223, rfl⟩
abbrev main_call0_call0_v158 : Ref sig .tc := ⟨.hbm, 224, rfl⟩
abbrev main_call0_call0_c_41 : Ref sig .tc := ⟨.hbm, 225, rfl⟩
abbrev main_call0_call0_v159 : Ref sig .tc := ⟨.hbm, 226, rfl⟩
abbrev main_call0_call0_v160 : Ref sig .tc := ⟨.hbm, 227, rfl⟩
abbrev main_call0_call0_v161 : Ref sig .tc := ⟨.hbm, 228, rfl⟩
abbrev main_call0_call0_v162 : Ref sig .tc := ⟨.hbm, 229, rfl⟩
abbrev main_call0_call0_v163 : Ref sig .tc := ⟨.hbm, 230, rfl⟩
abbrev main_call0_call0_c_42 : Ref sig .tc := ⟨.hbm, 231, rfl⟩
abbrev main_call0_call0_v164 : Ref sig .tc := ⟨.hbm, 232, rfl⟩
abbrev main_call0_call0_v165 : Ref sig .tc := ⟨.hbm, 233, rfl⟩
abbrev main_call0_call0_c_43 : Ref sig .tc := ⟨.hbm, 234, rfl⟩
abbrev main_call0_call0_v166 : Ref sig .tc := ⟨.hbm, 235, rfl⟩
abbrev main_call0_call0_v167 : Ref sig .tc := ⟨.hbm, 236, rfl⟩
abbrev main_call0_call0_v168 : Ref sig .tc := ⟨.hbm, 237, rfl⟩
abbrev main_call0_call0_v169 : Ref sig .tc := ⟨.hbm, 238, rfl⟩
abbrev main_call0_call0_v170 : Ref sig .tc := ⟨.hbm, 239, rfl⟩
abbrev main_call0_v11_0 : Ref sig .tc := ⟨.hbm, 240, rfl⟩
abbrev main_call0_call0_v172 : Ref sig .tc := ⟨.hbm, 241, rfl⟩
abbrev main_call0_call0_v173 : Ref sig .tc := ⟨.hbm, 242, rfl⟩
abbrev main_call0_call0_c_44 : Ref sig .tc := ⟨.hbm, 243, rfl⟩
abbrev main_call0_call0_v174 : Ref sig .tc := ⟨.hbm, 244, rfl⟩
abbrev main_call0_v11_1 : Ref sig .tc := ⟨.hbm, 245, rfl⟩
abbrev main_call0_v12 : Ref sig .tc := ⟨.hbm, 246, rfl⟩
abbrev main_call0_v13 : Ref sig .tc := ⟨.hbm, 247, rfl⟩
abbrev main_v7 : Ref sig .tc := ⟨.hbm, 248, rfl⟩
abbrev main_v8 : Ref sig .tc := ⟨.hbm, 249, rfl⟩
abbrev main_v9 : Ref sig .tc := ⟨.hbm, 250, rfl⟩
abbrev main_v10 : Ref sig .tc := ⟨.hbm, 251, rfl⟩
abbrev main_v11 : Ref sig .tc := ⟨.hbm, 252, rfl⟩
abbrev main_v12 : Ref sig .tc := ⟨.hbm, 253, rfl⟩
abbrev main_cst : Ref sig .tc := ⟨.hbm, 254, rfl⟩
abbrev main_cst_2 : Ref sig .tc := ⟨.hbm, 255, rfl⟩
abbrev main_call1_v0 : Ref sig .tc := ⟨.hbm, 256, rfl⟩
abbrev main_call1_v1 : Ref sig .tc := ⟨.hbm, 257, rfl⟩
abbrev main_call1_v2 : Ref sig .tc := ⟨.hbm, 258, rfl⟩
abbrev main_call1_v3 : Ref sig .tc := ⟨.hbm, 259, rfl⟩
abbrev main_call1_v4 : Ref sig .tc := ⟨.hbm, 260, rfl⟩
abbrev main_call1_v5 : Ref sig .tc := ⟨.hbm, 261, rfl⟩
abbrev main_call1_v6 : Ref sig .tc := ⟨.hbm, 262, rfl⟩
abbrev main_call1_v7 : Ref sig .tc := ⟨.hbm, 263, rfl⟩
abbrev main_call1_v8 : Ref sig .tc := ⟨.hbm, 264, rfl⟩
abbrev main_call1_v9 : Ref sig .tc := ⟨.hbm, 265, rfl⟩
abbrev main_call1_v10 : Ref sig .tc := ⟨.hbm, 266, rfl⟩
abbrev main_call1_c : Ref sig .tc := ⟨.hbm, 267, rfl⟩
abbrev main_call1_v11 : Ref sig .tc := ⟨.hbm, 268, rfl⟩
abbrev main_call1_v12 : Ref sig .tc := ⟨.hbm, 269, rfl⟩
abbrev main_call1_c_0 : Ref sig .tc := ⟨.hbm, 270, rfl⟩
abbrev main_call1_v13 : Ref sig .tc := ⟨.hbm, 271, rfl⟩
abbrev main_call1_v14 : Ref sig .tc := ⟨.hbm, 272, rfl⟩
abbrev main_call1_c_1 : Ref sig .tc := ⟨.hbm, 273, rfl⟩
abbrev main_call1_v15 : Ref sig .tc := ⟨.hbm, 274, rfl⟩
abbrev main_call1_v16 : Ref sig .tc := ⟨.hbm, 275, rfl⟩
abbrev main_call1_v17 : Ref sig .tc := ⟨.hbm, 276, rfl⟩
abbrev main_call1_v18 : Ref sig .tc := ⟨.hbm, 277, rfl⟩
abbrev main_call1_c_2 : Ref sig .tc := ⟨.hbm, 278, rfl⟩
abbrev main_call1_v19 : Ref sig .tc := ⟨.hbm, 279, rfl⟩
abbrev main_call1_v20 : Ref sig .tc := ⟨.hbm, 280, rfl⟩
abbrev main_call1_v21 : Ref sig .tc := ⟨.hbm, 281, rfl⟩
abbrev main_call1_v22 : Ref sig .tc := ⟨.hbm, 282, rfl⟩
abbrev main_call1_call0_v0 : Ref sig .tc := ⟨.hbm, 283, rfl⟩
abbrev main_call1_call0_c : Ref sig .tc := ⟨.hbm, 284, rfl⟩
abbrev main_call1_call0_v1 : Ref sig .tc := ⟨.hbm, 285, rfl⟩
abbrev main_call1_call0_v2 : Ref sig .tc := ⟨.hbm, 286, rfl⟩
abbrev main_call1_call0_v3 : Ref sig .tc := ⟨.hbm, 287, rfl⟩
abbrev main_call1_call0_v4 : Ref sig .tc := ⟨.hbm, 288, rfl⟩
abbrev main_call1_call0_v5 : Ref sig .tc := ⟨.hbm, 289, rfl⟩
abbrev main_call1_call0_v6 : Ref sig .tc := ⟨.hbm, 290, rfl⟩
abbrev main_call1_call0_c_0 : Ref sig .tc := ⟨.hbm, 291, rfl⟩
abbrev main_call1_call0_v7 : Ref sig .tc := ⟨.hbm, 292, rfl⟩
abbrev main_call1_call0_v8 : Ref sig .tc := ⟨.hbm, 293, rfl⟩
abbrev main_call1_call0_c_1 : Ref sig .tc := ⟨.hbm, 294, rfl⟩
abbrev main_call1_call0_v9 : Ref sig .tc := ⟨.hbm, 295, rfl⟩
abbrev main_call1_call0_v10 : Ref sig .tc := ⟨.hbm, 296, rfl⟩
abbrev main_call1_call0_v11 : Ref sig .tc := ⟨.hbm, 297, rfl⟩
abbrev main_call1_call0_v12 : Ref sig .tc := ⟨.hbm, 298, rfl⟩
abbrev main_call1_call0_v13 : Ref sig .tc := ⟨.hbm, 299, rfl⟩
abbrev main_call1_call0_c_2 : Ref sig .tc := ⟨.hbm, 300, rfl⟩
abbrev main_call1_call0_v14 : Ref sig .tc := ⟨.hbm, 301, rfl⟩
abbrev main_call1_call0_v15 : Ref sig .tc := ⟨.hbm, 302, rfl⟩
abbrev main_call1_call0_c_3 : Ref sig .tc := ⟨.hbm, 303, rfl⟩
abbrev main_call1_call0_v16 : Ref sig .tc := ⟨.hbm, 304, rfl⟩
abbrev main_call1_call0_v17 : Ref sig .tc := ⟨.hbm, 305, rfl⟩
abbrev main_call1_call0_v18 : Ref sig .tc := ⟨.hbm, 306, rfl⟩
abbrev main_call1_call0_v19 : Ref sig .tc := ⟨.hbm, 307, rfl⟩
abbrev main_call1_call0_v20 : Ref sig .tc := ⟨.hbm, 308, rfl⟩
abbrev main_call1_call0_c_4 : Ref sig .tc := ⟨.hbm, 309, rfl⟩
abbrev main_call1_call0_v21 : Ref sig .tc := ⟨.hbm, 310, rfl⟩
abbrev main_call1_call0_v22 : Ref sig .tc := ⟨.hbm, 311, rfl⟩
abbrev main_call1_call0_c_5 : Ref sig .tc := ⟨.hbm, 312, rfl⟩
abbrev main_call1_call0_v23 : Ref sig .tc := ⟨.hbm, 313, rfl⟩
abbrev main_call1_call0_v24 : Ref sig .tc := ⟨.hbm, 314, rfl⟩
abbrev main_call1_call0_v25 : Ref sig .tc := ⟨.hbm, 315, rfl⟩
abbrev main_call1_call0_v26 : Ref sig .tc := ⟨.hbm, 316, rfl⟩
abbrev main_call1_call0_v27 : Ref sig .tc := ⟨.hbm, 317, rfl⟩
abbrev main_call1_call0_c_6 : Ref sig .tc := ⟨.hbm, 318, rfl⟩
abbrev main_call1_call0_v28 : Ref sig .tc := ⟨.hbm, 319, rfl⟩
abbrev main_call1_call0_v29 : Ref sig .tc := ⟨.hbm, 320, rfl⟩
abbrev main_call1_call0_c_7 : Ref sig .tc := ⟨.hbm, 321, rfl⟩
abbrev main_call1_call0_v30 : Ref sig .tc := ⟨.hbm, 322, rfl⟩
abbrev main_call1_call0_v31 : Ref sig .tc := ⟨.hbm, 323, rfl⟩
abbrev main_call1_call0_v32 : Ref sig .tc := ⟨.hbm, 324, rfl⟩
abbrev main_call1_call0_v33 : Ref sig .tc := ⟨.hbm, 325, rfl⟩
abbrev main_call1_call0_v34 : Ref sig .tc := ⟨.hbm, 326, rfl⟩
abbrev main_call1_call0_v35 : Ref sig .tc := ⟨.hbm, 327, rfl⟩
abbrev main_call1_call0_v36 : Ref sig .tc := ⟨.hbm, 328, rfl⟩
abbrev main_call1_call0_v37 : Ref sig .tc := ⟨.hbm, 329, rfl⟩
abbrev main_call1_call0_c_8 : Ref sig .tc := ⟨.hbm, 330, rfl⟩
abbrev main_call1_call0_v38 : Ref sig .tc := ⟨.hbm, 331, rfl⟩
abbrev main_call1_call0_v39 : Ref sig .tc := ⟨.hbm, 332, rfl⟩
abbrev main_call1_call0_v40 : Ref sig .tc := ⟨.hbm, 333, rfl⟩
abbrev main_call1_call0_c_9 : Ref sig .tc := ⟨.hbm, 334, rfl⟩
abbrev main_call1_call0_v41 : Ref sig .tc := ⟨.hbm, 335, rfl⟩
abbrev main_call1_call0_v42 : Ref sig .tc := ⟨.hbm, 336, rfl⟩
abbrev main_call1_call0_c_10 : Ref sig .tc := ⟨.hbm, 337, rfl⟩
abbrev main_call1_call0_v43 : Ref sig .tc := ⟨.hbm, 338, rfl⟩
abbrev main_call1_call0_v44 : Ref sig .tc := ⟨.hbm, 339, rfl⟩
abbrev main_call1_call0_v45 : Ref sig .tc := ⟨.hbm, 340, rfl⟩
abbrev main_call1_call0_v46 : Ref sig .tc := ⟨.hbm, 341, rfl⟩
abbrev main_call1_call0_v47 : Ref sig .tc := ⟨.hbm, 342, rfl⟩
abbrev main_call1_call0_c_11 : Ref sig .tc := ⟨.hbm, 343, rfl⟩
abbrev main_call1_call0_v48 : Ref sig .tc := ⟨.hbm, 344, rfl⟩
abbrev main_call1_call0_v49 : Ref sig .tc := ⟨.hbm, 345, rfl⟩
abbrev main_call1_call0_c_12 : Ref sig .tc := ⟨.hbm, 346, rfl⟩
abbrev main_call1_call0_v50 : Ref sig .tc := ⟨.hbm, 347, rfl⟩
abbrev main_call1_call0_v51 : Ref sig .tc := ⟨.hbm, 348, rfl⟩
abbrev main_call1_call0_v52 : Ref sig .tc := ⟨.hbm, 349, rfl⟩
abbrev main_call1_call0_v53 : Ref sig .tc := ⟨.hbm, 350, rfl⟩
abbrev main_call1_call0_v54 : Ref sig .tc := ⟨.hbm, 351, rfl⟩
abbrev main_call1_call0_c_13 : Ref sig .tc := ⟨.hbm, 352, rfl⟩
abbrev main_call1_call0_v55 : Ref sig .tc := ⟨.hbm, 353, rfl⟩
abbrev main_call1_call0_v56 : Ref sig .tc := ⟨.hbm, 354, rfl⟩
abbrev main_call1_call0_c_14 : Ref sig .tc := ⟨.hbm, 355, rfl⟩
abbrev main_call1_call0_v57 : Ref sig .tc := ⟨.hbm, 356, rfl⟩
abbrev main_call1_call0_v58 : Ref sig .tc := ⟨.hbm, 357, rfl⟩
abbrev main_call1_call0_v59 : Ref sig .tc := ⟨.hbm, 358, rfl⟩
abbrev main_call1_call0_v60 : Ref sig .tc := ⟨.hbm, 359, rfl⟩
abbrev main_call1_call0_v61 : Ref sig .tc := ⟨.hbm, 360, rfl⟩
abbrev main_call1_call0_c_15 : Ref sig .tc := ⟨.hbm, 361, rfl⟩
abbrev main_call1_call0_v62 : Ref sig .tc := ⟨.hbm, 362, rfl⟩
abbrev main_call1_call0_v63 : Ref sig .tc := ⟨.hbm, 363, rfl⟩
abbrev main_call1_call0_c_16 : Ref sig .tc := ⟨.hbm, 364, rfl⟩
abbrev main_call1_call0_v64 : Ref sig .tc := ⟨.hbm, 365, rfl⟩
abbrev main_call1_call0_v65 : Ref sig .tc := ⟨.hbm, 366, rfl⟩
abbrev main_call1_call0_v66 : Ref sig .tc := ⟨.hbm, 367, rfl⟩
abbrev main_call1_call0_v67 : Ref sig .tc := ⟨.hbm, 368, rfl⟩
abbrev main_call1_call0_v68 : Ref sig .tc := ⟨.hbm, 369, rfl⟩
abbrev main_call1_call0_v69 : Ref sig .tc := ⟨.hbm, 370, rfl⟩
abbrev main_call1_call0_v70 : Ref sig .tc := ⟨.hbm, 371, rfl⟩
abbrev main_call1_call0_v71 : Ref sig .tc := ⟨.hbm, 372, rfl⟩
abbrev main_call1_call0_c_17 : Ref sig .tc := ⟨.hbm, 373, rfl⟩
abbrev main_call1_call0_v72 : Ref sig .tc := ⟨.hbm, 374, rfl⟩
abbrev main_call1_call0_v73 : Ref sig .tc := ⟨.hbm, 375, rfl⟩
abbrev main_call1_call0_v74 : Ref sig .tc := ⟨.hbm, 376, rfl⟩
abbrev main_call1_call0_c_18 : Ref sig .tc := ⟨.hbm, 377, rfl⟩
abbrev main_call1_call0_v75 : Ref sig .tc := ⟨.hbm, 378, rfl⟩
abbrev main_call1_call0_v76 : Ref sig .tc := ⟨.hbm, 379, rfl⟩
abbrev main_call1_call0_c_19 : Ref sig .tc := ⟨.hbm, 380, rfl⟩
abbrev main_call1_call0_v77 : Ref sig .tc := ⟨.hbm, 381, rfl⟩
abbrev main_call1_call0_v78 : Ref sig .tc := ⟨.hbm, 382, rfl⟩
abbrev main_call1_call0_v79 : Ref sig .tc := ⟨.hbm, 383, rfl⟩
abbrev main_call1_call0_v80 : Ref sig .tc := ⟨.hbm, 384, rfl⟩
abbrev main_call1_call0_v81 : Ref sig .tc := ⟨.hbm, 385, rfl⟩
abbrev main_call1_call0_c_20 : Ref sig .tc := ⟨.hbm, 386, rfl⟩
abbrev main_call1_call0_v82 : Ref sig .tc := ⟨.hbm, 387, rfl⟩
abbrev main_call1_call0_v83 : Ref sig .tc := ⟨.hbm, 388, rfl⟩
abbrev main_call1_call0_c_21 : Ref sig .tc := ⟨.hbm, 389, rfl⟩
abbrev main_call1_call0_v84 : Ref sig .tc := ⟨.hbm, 390, rfl⟩
abbrev main_call1_call0_v85 : Ref sig .tc := ⟨.hbm, 391, rfl⟩
abbrev main_call1_call0_v86 : Ref sig .tc := ⟨.hbm, 392, rfl⟩
abbrev main_call1_call0_v87 : Ref sig .tc := ⟨.hbm, 393, rfl⟩
abbrev main_call1_call0_v88 : Ref sig .tc := ⟨.hbm, 394, rfl⟩
abbrev main_call1_call0_c_22 : Ref sig .tc := ⟨.hbm, 395, rfl⟩
abbrev main_call1_call0_v89 : Ref sig .tc := ⟨.hbm, 396, rfl⟩
abbrev main_call1_call0_v90 : Ref sig .tc := ⟨.hbm, 397, rfl⟩
abbrev main_call1_call0_c_23 : Ref sig .tc := ⟨.hbm, 398, rfl⟩
abbrev main_call1_call0_v91 : Ref sig .tc := ⟨.hbm, 399, rfl⟩
abbrev main_call1_call0_v92 : Ref sig .tc := ⟨.hbm, 400, rfl⟩
abbrev main_call1_call0_v93 : Ref sig .tc := ⟨.hbm, 401, rfl⟩
abbrev main_call1_call0_v94 : Ref sig .tc := ⟨.hbm, 402, rfl⟩
abbrev main_call1_call0_v95 : Ref sig .tc := ⟨.hbm, 403, rfl⟩
abbrev main_call1_call0_c_24 : Ref sig .tc := ⟨.hbm, 404, rfl⟩
abbrev main_call1_call0_v96 : Ref sig .tc := ⟨.hbm, 405, rfl⟩
abbrev main_call1_call0_v97 : Ref sig .tc := ⟨.hbm, 406, rfl⟩
abbrev main_call1_call0_c_25 : Ref sig .tc := ⟨.hbm, 407, rfl⟩
abbrev main_call1_call0_v98 : Ref sig .tc := ⟨.hbm, 408, rfl⟩
abbrev main_call1_call0_v99 : Ref sig .tc := ⟨.hbm, 409, rfl⟩
abbrev main_call1_call0_v100 : Ref sig .tc := ⟨.hbm, 410, rfl⟩
abbrev main_call1_call0_v101 : Ref sig .tc := ⟨.hbm, 411, rfl⟩
abbrev main_call1_call0_v102 : Ref sig .tc := ⟨.hbm, 412, rfl⟩
abbrev main_call1_call0_v103 : Ref sig .tc := ⟨.hbm, 413, rfl⟩
abbrev main_call1_call0_v104 : Ref sig .tc := ⟨.hbm, 414, rfl⟩
abbrev main_call1_call0_v105 : Ref sig .tc := ⟨.hbm, 415, rfl⟩
abbrev main_call1_call0_c_26 : Ref sig .tc := ⟨.hbm, 416, rfl⟩
abbrev main_call1_call0_v106 : Ref sig .tc := ⟨.hbm, 417, rfl⟩
abbrev main_call1_call0_v107 : Ref sig .tc := ⟨.hbm, 418, rfl⟩
abbrev main_call1_call0_v108 : Ref sig .tc := ⟨.hbm, 419, rfl⟩
abbrev main_call1_call0_c_27 : Ref sig .tc := ⟨.hbm, 420, rfl⟩
abbrev main_call1_call0_v109 : Ref sig .tc := ⟨.hbm, 421, rfl⟩
abbrev main_call1_call0_v110 : Ref sig .tc := ⟨.hbm, 422, rfl⟩
abbrev main_call1_call0_c_28 : Ref sig .tc := ⟨.hbm, 423, rfl⟩
abbrev main_call1_call0_v111 : Ref sig .tc := ⟨.hbm, 424, rfl⟩
abbrev main_call1_call0_v112 : Ref sig .tc := ⟨.hbm, 425, rfl⟩
abbrev main_call1_call0_v113 : Ref sig .tc := ⟨.hbm, 426, rfl⟩
abbrev main_call1_call0_v114 : Ref sig .tc := ⟨.hbm, 427, rfl⟩
abbrev main_call1_call0_v115 : Ref sig .tc := ⟨.hbm, 428, rfl⟩
abbrev main_call1_call0_c_29 : Ref sig .tc := ⟨.hbm, 429, rfl⟩
abbrev main_call1_call0_v116 : Ref sig .tc := ⟨.hbm, 430, rfl⟩
abbrev main_call1_call0_v117 : Ref sig .tc := ⟨.hbm, 431, rfl⟩
abbrev main_call1_call0_c_30 : Ref sig .tc := ⟨.hbm, 432, rfl⟩
abbrev main_call1_call0_v118 : Ref sig .tc := ⟨.hbm, 433, rfl⟩
abbrev main_call1_call0_v119 : Ref sig .tc := ⟨.hbm, 434, rfl⟩
abbrev main_call1_call0_v120 : Ref sig .tc := ⟨.hbm, 435, rfl⟩
abbrev main_call1_call0_v121 : Ref sig .tc := ⟨.hbm, 436, rfl⟩
abbrev main_call1_call0_v122 : Ref sig .tc := ⟨.hbm, 437, rfl⟩
abbrev main_call1_call0_c_31 : Ref sig .tc := ⟨.hbm, 438, rfl⟩
abbrev main_call1_call0_v123 : Ref sig .tc := ⟨.hbm, 439, rfl⟩
abbrev main_call1_call0_v124 : Ref sig .tc := ⟨.hbm, 440, rfl⟩
abbrev main_call1_call0_c_32 : Ref sig .tc := ⟨.hbm, 441, rfl⟩
abbrev main_call1_call0_v125 : Ref sig .tc := ⟨.hbm, 442, rfl⟩
abbrev main_call1_call0_v126 : Ref sig .tc := ⟨.hbm, 443, rfl⟩
abbrev main_call1_call0_v127 : Ref sig .tc := ⟨.hbm, 444, rfl⟩
abbrev main_call1_call0_v128 : Ref sig .tc := ⟨.hbm, 445, rfl⟩
abbrev main_call1_call0_v129 : Ref sig .tc := ⟨.hbm, 446, rfl⟩
abbrev main_call1_call0_c_33 : Ref sig .tc := ⟨.hbm, 447, rfl⟩
abbrev main_call1_call0_v130 : Ref sig .tc := ⟨.hbm, 448, rfl⟩
abbrev main_call1_call0_v131 : Ref sig .tc := ⟨.hbm, 449, rfl⟩
abbrev main_call1_call0_c_34 : Ref sig .tc := ⟨.hbm, 450, rfl⟩
abbrev main_call1_call0_v132 : Ref sig .tc := ⟨.hbm, 451, rfl⟩
abbrev main_call1_call0_v133 : Ref sig .tc := ⟨.hbm, 452, rfl⟩
abbrev main_call1_call0_v134 : Ref sig .tc := ⟨.hbm, 453, rfl⟩
abbrev main_call1_call0_v135 : Ref sig .tc := ⟨.hbm, 454, rfl⟩
abbrev main_call1_call0_v136 : Ref sig .tc := ⟨.hbm, 455, rfl⟩
abbrev main_call1_call0_v137 : Ref sig .tc := ⟨.hbm, 456, rfl⟩
abbrev main_call1_call0_v138 : Ref sig .tc := ⟨.hbm, 457, rfl⟩
abbrev main_call1_call0_v139 : Ref sig .tc := ⟨.hbm, 458, rfl⟩
abbrev main_call1_call0_c_35 : Ref sig .tc := ⟨.hbm, 459, rfl⟩
abbrev main_call1_call0_v140 : Ref sig .tc := ⟨.hbm, 460, rfl⟩
abbrev main_call1_call0_v141 : Ref sig .tc := ⟨.hbm, 461, rfl⟩
abbrev main_call1_call0_v142 : Ref sig .tc := ⟨.hbm, 462, rfl⟩
abbrev main_call1_call0_c_36 : Ref sig .tc := ⟨.hbm, 463, rfl⟩
abbrev main_call1_call0_v143 : Ref sig .tc := ⟨.hbm, 464, rfl⟩
abbrev main_call1_call0_v144 : Ref sig .tc := ⟨.hbm, 465, rfl⟩
abbrev main_call1_call0_c_37 : Ref sig .tc := ⟨.hbm, 466, rfl⟩
abbrev main_call1_call0_v145 : Ref sig .tc := ⟨.hbm, 467, rfl⟩
abbrev main_call1_call0_v146 : Ref sig .tc := ⟨.hbm, 468, rfl⟩
abbrev main_call1_call0_v147 : Ref sig .tc := ⟨.hbm, 469, rfl⟩
abbrev main_call1_call0_v148 : Ref sig .tc := ⟨.hbm, 470, rfl⟩
abbrev main_call1_call0_v149 : Ref sig .tc := ⟨.hbm, 471, rfl⟩
abbrev main_call1_call0_c_38 : Ref sig .tc := ⟨.hbm, 472, rfl⟩
abbrev main_call1_call0_v150 : Ref sig .tc := ⟨.hbm, 473, rfl⟩
abbrev main_call1_call0_v151 : Ref sig .tc := ⟨.hbm, 474, rfl⟩
abbrev main_call1_call0_c_39 : Ref sig .tc := ⟨.hbm, 475, rfl⟩
abbrev main_call1_call0_v152 : Ref sig .tc := ⟨.hbm, 476, rfl⟩
abbrev main_call1_call0_v153 : Ref sig .tc := ⟨.hbm, 477, rfl⟩
abbrev main_call1_call0_v154 : Ref sig .tc := ⟨.hbm, 478, rfl⟩
abbrev main_call1_call0_v155 : Ref sig .tc := ⟨.hbm, 479, rfl⟩
abbrev main_call1_call0_v156 : Ref sig .tc := ⟨.hbm, 480, rfl⟩
abbrev main_call1_call0_c_40 : Ref sig .tc := ⟨.hbm, 481, rfl⟩
abbrev main_call1_call0_v157 : Ref sig .tc := ⟨.hbm, 482, rfl⟩
abbrev main_call1_call0_v158 : Ref sig .tc := ⟨.hbm, 483, rfl⟩
abbrev main_call1_call0_c_41 : Ref sig .tc := ⟨.hbm, 484, rfl⟩
abbrev main_call1_call0_v159 : Ref sig .tc := ⟨.hbm, 485, rfl⟩
abbrev main_call1_call0_v160 : Ref sig .tc := ⟨.hbm, 486, rfl⟩
abbrev main_call1_call0_v161 : Ref sig .tc := ⟨.hbm, 487, rfl⟩
abbrev main_call1_call0_v162 : Ref sig .tc := ⟨.hbm, 488, rfl⟩
abbrev main_call1_call0_v163 : Ref sig .tc := ⟨.hbm, 489, rfl⟩
abbrev main_call1_call0_c_42 : Ref sig .tc := ⟨.hbm, 490, rfl⟩
abbrev main_call1_call0_v164 : Ref sig .tc := ⟨.hbm, 491, rfl⟩
abbrev main_call1_call0_v165 : Ref sig .tc := ⟨.hbm, 492, rfl⟩
abbrev main_call1_call0_c_43 : Ref sig .tc := ⟨.hbm, 493, rfl⟩
abbrev main_call1_call0_v166 : Ref sig .tc := ⟨.hbm, 494, rfl⟩
abbrev main_call1_call0_v167 : Ref sig .tc := ⟨.hbm, 495, rfl⟩
abbrev main_call1_call0_v168 : Ref sig .tc := ⟨.hbm, 496, rfl⟩
abbrev main_call1_call0_v169 : Ref sig .tc := ⟨.hbm, 497, rfl⟩
abbrev main_call1_call0_v170 : Ref sig .tc := ⟨.hbm, 498, rfl⟩
abbrev main_call1_v23_0 : Ref sig .tc := ⟨.hbm, 499, rfl⟩
abbrev main_call1_call0_v172 : Ref sig .tc := ⟨.hbm, 500, rfl⟩
abbrev main_call1_call0_v173 : Ref sig .tc := ⟨.hbm, 501, rfl⟩
abbrev main_call1_call0_c_44 : Ref sig .tc := ⟨.hbm, 502, rfl⟩
abbrev main_call1_call0_v174 : Ref sig .tc := ⟨.hbm, 503, rfl⟩
abbrev main_call1_v23_1 : Ref sig .tc := ⟨.hbm, 504, rfl⟩
abbrev main_call1_v24 : Ref sig .tc := ⟨.hbm, 505, rfl⟩
abbrev main_call1_c_3 : Ref sig .tc := ⟨.hbm, 506, rfl⟩
abbrev main_call1_v25 : Ref sig .tc := ⟨.hbm, 507, rfl⟩
abbrev main_call1_v26 : Ref sig .tc := ⟨.hbm, 508, rfl⟩
abbrev main_call1_c_4 : Ref sig .tc := ⟨.hbm, 509, rfl⟩
abbrev main_call1_v27 : Ref sig .tc := ⟨.hbm, 510, rfl⟩
abbrev main_call1_v28 : Ref sig .tc := ⟨.hbm, 511, rfl⟩
abbrev main_call1_v29 : Ref sig .tc := ⟨.hbm, 512, rfl⟩
abbrev main_call1_cst : Ref sig .tc := ⟨.hbm, 513, rfl⟩
abbrev main_call1_v30 : Ref sig .tc := ⟨.hbm, 514, rfl⟩
abbrev main_call1_v31 : Ref sig .tc := ⟨.hbm, 515, rfl⟩
abbrev main_call1_v32 : Ref sig .tc := ⟨.hbm, 516, rfl⟩
abbrev main_call1_v33 : Ref sig .tc := ⟨.hbm, 517, rfl⟩
abbrev main_call1_v34 : Ref sig .tc := ⟨.hbm, 518, rfl⟩
abbrev main_call1_v35 : Ref sig .tc := ⟨.hbm, 519, rfl⟩
abbrev main_call1_v36 : Ref sig .tc := ⟨.hbm, 520, rfl⟩
abbrev main_call1_v37 : Ref sig .tc := ⟨.hbm, 521, rfl⟩
abbrev main_v13 : Ref sig .tc := ⟨.hbm, 522, rfl⟩
abbrev main_cst_3 : Ref sig .tc := ⟨.hbm, 523, rfl⟩
abbrev main_v14 : Ref sig .tc := ⟨.hbm, 524, rfl⟩
abbrev main_v15 : Ref sig .tc := ⟨.hbm, 525, rfl⟩
abbrev main_v16 : Ref sig .tc := ⟨.hbm, 526, rfl⟩
abbrev main_v17 : Ref sig .tc := ⟨.hbm, 527, rfl⟩
abbrev main_v18 : Ref sig .tc := ⟨.hbm, 528, rfl⟩
abbrev main_v19 : Ref sig .tc := ⟨.hbm, 529, rfl⟩
abbrev main_v20 : Ref sig .tc := ⟨.hbm, 530, rfl⟩
abbrev main_call2_v0 : Ref sig .tc := ⟨.hbm, 531, rfl⟩
abbrev main_call2_cst : Ref sig .tc := ⟨.hbm, 532, rfl⟩
abbrev main_call2_c : Ref sig .tc := ⟨.hbm, 533, rfl⟩
abbrev main_call2_v1_0 : Ref sig .tc := ⟨.hbm, 534, rfl⟩
abbrev main_v21 : Ref sig .tc := ⟨.hbm, 535, rfl⟩
abbrev main_call3_v0 : Ref sig .tc := ⟨.hbm, 536, rfl⟩
abbrev main_call3_v1 : Ref sig .tc := ⟨.hbm, 537, rfl⟩
abbrev main_call3_v2 : Ref sig .tc := ⟨.hbm, 538, rfl⟩
abbrev main_call3_v3 : Ref sig .tc := ⟨.hbm, 539, rfl⟩
abbrev main_call3_v4 : Ref sig .tc := ⟨.hbm, 540, rfl⟩
abbrev main_v22 : Ref sig .tc := ⟨.hbm, 541, rfl⟩
abbrev main_v23 : Ref sig .tc := ⟨.hbm, 542, rfl⟩
abbrev main_cst_4 : Ref sig .tc := ⟨.hbm, 543, rfl⟩
abbrev main_cst_5 : Ref sig .tc := ⟨.hbm, 544, rfl⟩
abbrev main_call4_v0 : Ref sig .tc := ⟨.hbm, 545, rfl⟩
abbrev main_call4_v1 : Ref sig .tc := ⟨.hbm, 546, rfl⟩
abbrev main_call4_v2 : Ref sig .tc := ⟨.hbm, 547, rfl⟩
abbrev main_call4_v3 : Ref sig .tc := ⟨.hbm, 548, rfl⟩
abbrev main_call4_v4 : Ref sig .tc := ⟨.hbm, 549, rfl⟩
abbrev main_call4_v5 : Ref sig .tc := ⟨.hbm, 550, rfl⟩
abbrev main_call4_v6 : Ref sig .tc := ⟨.hbm, 551, rfl⟩
abbrev main_call4_v7 : Ref sig .tc := ⟨.hbm, 552, rfl⟩
abbrev main_call4_v8 : Ref sig .tc := ⟨.hbm, 553, rfl⟩
abbrev main_call4_v9 : Ref sig .tc := ⟨.hbm, 554, rfl⟩
abbrev main_call4_v10 : Ref sig .tc := ⟨.hbm, 555, rfl⟩
abbrev main_call4_c : Ref sig .tc := ⟨.hbm, 556, rfl⟩
abbrev main_call4_v11 : Ref sig .tc := ⟨.hbm, 557, rfl⟩
abbrev main_call4_v12 : Ref sig .tc := ⟨.hbm, 558, rfl⟩
abbrev main_call4_c_0 : Ref sig .tc := ⟨.hbm, 559, rfl⟩
abbrev main_call4_v13 : Ref sig .tc := ⟨.hbm, 560, rfl⟩
abbrev main_call4_v14 : Ref sig .tc := ⟨.hbm, 561, rfl⟩
abbrev main_call4_c_1 : Ref sig .tc := ⟨.hbm, 562, rfl⟩
abbrev main_call4_v15 : Ref sig .tc := ⟨.hbm, 563, rfl⟩
abbrev main_call4_v16 : Ref sig .tc := ⟨.hbm, 564, rfl⟩
abbrev main_call4_v17 : Ref sig .tc := ⟨.hbm, 565, rfl⟩
abbrev main_call4_v18 : Ref sig .tc := ⟨.hbm, 566, rfl⟩
abbrev main_call4_c_2 : Ref sig .tc := ⟨.hbm, 567, rfl⟩
abbrev main_call4_v19 : Ref sig .tc := ⟨.hbm, 568, rfl⟩
abbrev main_call4_v20 : Ref sig .tc := ⟨.hbm, 569, rfl⟩
abbrev main_call4_v21 : Ref sig .tc := ⟨.hbm, 570, rfl⟩
abbrev main_call4_v22 : Ref sig .tc := ⟨.hbm, 571, rfl⟩
abbrev main_call4_call0_v0 : Ref sig .tc := ⟨.hbm, 572, rfl⟩
abbrev main_call4_call0_c : Ref sig .tc := ⟨.hbm, 573, rfl⟩
abbrev main_call4_call0_v1 : Ref sig .tc := ⟨.hbm, 574, rfl⟩
abbrev main_call4_call0_v2 : Ref sig .tc := ⟨.hbm, 575, rfl⟩
abbrev main_call4_call0_v3 : Ref sig .tc := ⟨.hbm, 576, rfl⟩
abbrev main_call4_call0_v4 : Ref sig .tc := ⟨.hbm, 577, rfl⟩
abbrev main_call4_call0_v5 : Ref sig .tc := ⟨.hbm, 578, rfl⟩
abbrev main_call4_call0_v6 : Ref sig .tc := ⟨.hbm, 579, rfl⟩
abbrev main_call4_call0_c_0 : Ref sig .tc := ⟨.hbm, 580, rfl⟩
abbrev main_call4_call0_v7 : Ref sig .tc := ⟨.hbm, 581, rfl⟩
abbrev main_call4_call0_v8 : Ref sig .tc := ⟨.hbm, 582, rfl⟩
abbrev main_call4_call0_c_1 : Ref sig .tc := ⟨.hbm, 583, rfl⟩
abbrev main_call4_call0_v9 : Ref sig .tc := ⟨.hbm, 584, rfl⟩
abbrev main_call4_call0_v10 : Ref sig .tc := ⟨.hbm, 585, rfl⟩
abbrev main_call4_call0_v11 : Ref sig .tc := ⟨.hbm, 586, rfl⟩
abbrev main_call4_call0_v12 : Ref sig .tc := ⟨.hbm, 587, rfl⟩
abbrev main_call4_call0_v13 : Ref sig .tc := ⟨.hbm, 588, rfl⟩
abbrev main_call4_call0_c_2 : Ref sig .tc := ⟨.hbm, 589, rfl⟩
abbrev main_call4_call0_v14 : Ref sig .tc := ⟨.hbm, 590, rfl⟩
abbrev main_call4_call0_v15 : Ref sig .tc := ⟨.hbm, 591, rfl⟩
abbrev main_call4_call0_c_3 : Ref sig .tc := ⟨.hbm, 592, rfl⟩
abbrev main_call4_call0_v16 : Ref sig .tc := ⟨.hbm, 593, rfl⟩
abbrev main_call4_call0_v17 : Ref sig .tc := ⟨.hbm, 594, rfl⟩
abbrev main_call4_call0_v18 : Ref sig .tc := ⟨.hbm, 595, rfl⟩
abbrev main_call4_call0_v19 : Ref sig .tc := ⟨.hbm, 596, rfl⟩
abbrev main_call4_call0_v20 : Ref sig .tc := ⟨.hbm, 597, rfl⟩
abbrev main_call4_call0_c_4 : Ref sig .tc := ⟨.hbm, 598, rfl⟩
abbrev main_call4_call0_v21 : Ref sig .tc := ⟨.hbm, 599, rfl⟩
abbrev main_call4_call0_v22 : Ref sig .tc := ⟨.hbm, 600, rfl⟩
abbrev main_call4_call0_c_5 : Ref sig .tc := ⟨.hbm, 601, rfl⟩
abbrev main_call4_call0_v23 : Ref sig .tc := ⟨.hbm, 602, rfl⟩
abbrev main_call4_call0_v24 : Ref sig .tc := ⟨.hbm, 603, rfl⟩
abbrev main_call4_call0_v25 : Ref sig .tc := ⟨.hbm, 604, rfl⟩
abbrev main_call4_call0_v26 : Ref sig .tc := ⟨.hbm, 605, rfl⟩
abbrev main_call4_call0_v27 : Ref sig .tc := ⟨.hbm, 606, rfl⟩
abbrev main_call4_call0_c_6 : Ref sig .tc := ⟨.hbm, 607, rfl⟩
abbrev main_call4_call0_v28 : Ref sig .tc := ⟨.hbm, 608, rfl⟩
abbrev main_call4_call0_v29 : Ref sig .tc := ⟨.hbm, 609, rfl⟩
abbrev main_call4_call0_c_7 : Ref sig .tc := ⟨.hbm, 610, rfl⟩
abbrev main_call4_call0_v30 : Ref sig .tc := ⟨.hbm, 611, rfl⟩
abbrev main_call4_call0_v31 : Ref sig .tc := ⟨.hbm, 612, rfl⟩
abbrev main_call4_call0_v32 : Ref sig .tc := ⟨.hbm, 613, rfl⟩
abbrev main_call4_call0_v33 : Ref sig .tc := ⟨.hbm, 614, rfl⟩
abbrev main_call4_call0_v34 : Ref sig .tc := ⟨.hbm, 615, rfl⟩
abbrev main_call4_call0_v35 : Ref sig .tc := ⟨.hbm, 616, rfl⟩
abbrev main_call4_call0_v36 : Ref sig .tc := ⟨.hbm, 617, rfl⟩
abbrev main_call4_call0_v37 : Ref sig .tc := ⟨.hbm, 618, rfl⟩
abbrev main_call4_call0_c_8 : Ref sig .tc := ⟨.hbm, 619, rfl⟩
abbrev main_call4_call0_v38 : Ref sig .tc := ⟨.hbm, 620, rfl⟩
abbrev main_call4_call0_v39 : Ref sig .tc := ⟨.hbm, 621, rfl⟩
abbrev main_call4_call0_v40 : Ref sig .tc := ⟨.hbm, 622, rfl⟩
abbrev main_call4_call0_c_9 : Ref sig .tc := ⟨.hbm, 623, rfl⟩
abbrev main_call4_call0_v41 : Ref sig .tc := ⟨.hbm, 624, rfl⟩
abbrev main_call4_call0_v42 : Ref sig .tc := ⟨.hbm, 625, rfl⟩
abbrev main_call4_call0_c_10 : Ref sig .tc := ⟨.hbm, 626, rfl⟩
abbrev main_call4_call0_v43 : Ref sig .tc := ⟨.hbm, 627, rfl⟩
abbrev main_call4_call0_v44 : Ref sig .tc := ⟨.hbm, 628, rfl⟩
abbrev main_call4_call0_v45 : Ref sig .tc := ⟨.hbm, 629, rfl⟩
abbrev main_call4_call0_v46 : Ref sig .tc := ⟨.hbm, 630, rfl⟩
abbrev main_call4_call0_v47 : Ref sig .tc := ⟨.hbm, 631, rfl⟩
abbrev main_call4_call0_c_11 : Ref sig .tc := ⟨.hbm, 632, rfl⟩
abbrev main_call4_call0_v48 : Ref sig .tc := ⟨.hbm, 633, rfl⟩
abbrev main_call4_call0_v49 : Ref sig .tc := ⟨.hbm, 634, rfl⟩
abbrev main_call4_call0_c_12 : Ref sig .tc := ⟨.hbm, 635, rfl⟩
abbrev main_call4_call0_v50 : Ref sig .tc := ⟨.hbm, 636, rfl⟩
abbrev main_call4_call0_v51 : Ref sig .tc := ⟨.hbm, 637, rfl⟩
abbrev main_call4_call0_v52 : Ref sig .tc := ⟨.hbm, 638, rfl⟩
abbrev main_call4_call0_v53 : Ref sig .tc := ⟨.hbm, 639, rfl⟩
abbrev main_call4_call0_v54 : Ref sig .tc := ⟨.hbm, 640, rfl⟩
abbrev main_call4_call0_c_13 : Ref sig .tc := ⟨.hbm, 641, rfl⟩
abbrev main_call4_call0_v55 : Ref sig .tc := ⟨.hbm, 642, rfl⟩
abbrev main_call4_call0_v56 : Ref sig .tc := ⟨.hbm, 643, rfl⟩
abbrev main_call4_call0_c_14 : Ref sig .tc := ⟨.hbm, 644, rfl⟩
abbrev main_call4_call0_v57 : Ref sig .tc := ⟨.hbm, 645, rfl⟩
abbrev main_call4_call0_v58 : Ref sig .tc := ⟨.hbm, 646, rfl⟩
abbrev main_call4_call0_v59 : Ref sig .tc := ⟨.hbm, 647, rfl⟩
abbrev main_call4_call0_v60 : Ref sig .tc := ⟨.hbm, 648, rfl⟩
abbrev main_call4_call0_v61 : Ref sig .tc := ⟨.hbm, 649, rfl⟩
abbrev main_call4_call0_c_15 : Ref sig .tc := ⟨.hbm, 650, rfl⟩
abbrev main_call4_call0_v62 : Ref sig .tc := ⟨.hbm, 651, rfl⟩
abbrev main_call4_call0_v63 : Ref sig .tc := ⟨.hbm, 652, rfl⟩
abbrev main_call4_call0_c_16 : Ref sig .tc := ⟨.hbm, 653, rfl⟩
abbrev main_call4_call0_v64 : Ref sig .tc := ⟨.hbm, 654, rfl⟩
abbrev main_call4_call0_v65 : Ref sig .tc := ⟨.hbm, 655, rfl⟩
abbrev main_call4_call0_v66 : Ref sig .tc := ⟨.hbm, 656, rfl⟩
abbrev main_call4_call0_v67 : Ref sig .tc := ⟨.hbm, 657, rfl⟩
abbrev main_call4_call0_v68 : Ref sig .tc := ⟨.hbm, 658, rfl⟩
abbrev main_call4_call0_v69 : Ref sig .tc := ⟨.hbm, 659, rfl⟩
abbrev main_call4_call0_v70 : Ref sig .tc := ⟨.hbm, 660, rfl⟩
abbrev main_call4_call0_v71 : Ref sig .tc := ⟨.hbm, 661, rfl⟩
abbrev main_call4_call0_c_17 : Ref sig .tc := ⟨.hbm, 662, rfl⟩
abbrev main_call4_call0_v72 : Ref sig .tc := ⟨.hbm, 663, rfl⟩
abbrev main_call4_call0_v73 : Ref sig .tc := ⟨.hbm, 664, rfl⟩
abbrev main_call4_call0_v74 : Ref sig .tc := ⟨.hbm, 665, rfl⟩
abbrev main_call4_call0_c_18 : Ref sig .tc := ⟨.hbm, 666, rfl⟩
abbrev main_call4_call0_v75 : Ref sig .tc := ⟨.hbm, 667, rfl⟩
abbrev main_call4_call0_v76 : Ref sig .tc := ⟨.hbm, 668, rfl⟩
abbrev main_call4_call0_c_19 : Ref sig .tc := ⟨.hbm, 669, rfl⟩
abbrev main_call4_call0_v77 : Ref sig .tc := ⟨.hbm, 670, rfl⟩
abbrev main_call4_call0_v78 : Ref sig .tc := ⟨.hbm, 671, rfl⟩
abbrev main_call4_call0_v79 : Ref sig .tc := ⟨.hbm, 672, rfl⟩
abbrev main_call4_call0_v80 : Ref sig .tc := ⟨.hbm, 673, rfl⟩
abbrev main_call4_call0_v81 : Ref sig .tc := ⟨.hbm, 674, rfl⟩
abbrev main_call4_call0_c_20 : Ref sig .tc := ⟨.hbm, 675, rfl⟩
abbrev main_call4_call0_v82 : Ref sig .tc := ⟨.hbm, 676, rfl⟩
abbrev main_call4_call0_v83 : Ref sig .tc := ⟨.hbm, 677, rfl⟩
abbrev main_call4_call0_c_21 : Ref sig .tc := ⟨.hbm, 678, rfl⟩
abbrev main_call4_call0_v84 : Ref sig .tc := ⟨.hbm, 679, rfl⟩
abbrev main_call4_call0_v85 : Ref sig .tc := ⟨.hbm, 680, rfl⟩
abbrev main_call4_call0_v86 : Ref sig .tc := ⟨.hbm, 681, rfl⟩
abbrev main_call4_call0_v87 : Ref sig .tc := ⟨.hbm, 682, rfl⟩
abbrev main_call4_call0_v88 : Ref sig .tc := ⟨.hbm, 683, rfl⟩
abbrev main_call4_call0_c_22 : Ref sig .tc := ⟨.hbm, 684, rfl⟩
abbrev main_call4_call0_v89 : Ref sig .tc := ⟨.hbm, 685, rfl⟩
abbrev main_call4_call0_v90 : Ref sig .tc := ⟨.hbm, 686, rfl⟩
abbrev main_call4_call0_c_23 : Ref sig .tc := ⟨.hbm, 687, rfl⟩
abbrev main_call4_call0_v91 : Ref sig .tc := ⟨.hbm, 688, rfl⟩
abbrev main_call4_call0_v92 : Ref sig .tc := ⟨.hbm, 689, rfl⟩
abbrev main_call4_call0_v93 : Ref sig .tc := ⟨.hbm, 690, rfl⟩
abbrev main_call4_call0_v94 : Ref sig .tc := ⟨.hbm, 691, rfl⟩
abbrev main_call4_call0_v95 : Ref sig .tc := ⟨.hbm, 692, rfl⟩
abbrev main_call4_call0_c_24 : Ref sig .tc := ⟨.hbm, 693, rfl⟩
abbrev main_call4_call0_v96 : Ref sig .tc := ⟨.hbm, 694, rfl⟩
abbrev main_call4_call0_v97 : Ref sig .tc := ⟨.hbm, 695, rfl⟩
abbrev main_call4_call0_c_25 : Ref sig .tc := ⟨.hbm, 696, rfl⟩
abbrev main_call4_call0_v98 : Ref sig .tc := ⟨.hbm, 697, rfl⟩
abbrev main_call4_call0_v99 : Ref sig .tc := ⟨.hbm, 698, rfl⟩
abbrev main_call4_call0_v100 : Ref sig .tc := ⟨.hbm, 699, rfl⟩
abbrev main_call4_call0_v101 : Ref sig .tc := ⟨.hbm, 700, rfl⟩
abbrev main_call4_call0_v102 : Ref sig .tc := ⟨.hbm, 701, rfl⟩
abbrev main_call4_call0_v103 : Ref sig .tc := ⟨.hbm, 702, rfl⟩
abbrev main_call4_call0_v104 : Ref sig .tc := ⟨.hbm, 703, rfl⟩
abbrev main_call4_call0_v105 : Ref sig .tc := ⟨.hbm, 704, rfl⟩
abbrev main_call4_call0_c_26 : Ref sig .tc := ⟨.hbm, 705, rfl⟩
abbrev main_call4_call0_v106 : Ref sig .tc := ⟨.hbm, 706, rfl⟩
abbrev main_call4_call0_v107 : Ref sig .tc := ⟨.hbm, 707, rfl⟩
abbrev main_call4_call0_v108 : Ref sig .tc := ⟨.hbm, 708, rfl⟩
abbrev main_call4_call0_c_27 : Ref sig .tc := ⟨.hbm, 709, rfl⟩
abbrev main_call4_call0_v109 : Ref sig .tc := ⟨.hbm, 710, rfl⟩
abbrev main_call4_call0_v110 : Ref sig .tc := ⟨.hbm, 711, rfl⟩
abbrev main_call4_call0_c_28 : Ref sig .tc := ⟨.hbm, 712, rfl⟩
abbrev main_call4_call0_v111 : Ref sig .tc := ⟨.hbm, 713, rfl⟩
abbrev main_call4_call0_v112 : Ref sig .tc := ⟨.hbm, 714, rfl⟩
abbrev main_call4_call0_v113 : Ref sig .tc := ⟨.hbm, 715, rfl⟩
abbrev main_call4_call0_v114 : Ref sig .tc := ⟨.hbm, 716, rfl⟩
abbrev main_call4_call0_v115 : Ref sig .tc := ⟨.hbm, 717, rfl⟩
abbrev main_call4_call0_c_29 : Ref sig .tc := ⟨.hbm, 718, rfl⟩
abbrev main_call4_call0_v116 : Ref sig .tc := ⟨.hbm, 719, rfl⟩
abbrev main_call4_call0_v117 : Ref sig .tc := ⟨.hbm, 720, rfl⟩
abbrev main_call4_call0_c_30 : Ref sig .tc := ⟨.hbm, 721, rfl⟩
abbrev main_call4_call0_v118 : Ref sig .tc := ⟨.hbm, 722, rfl⟩
abbrev main_call4_call0_v119 : Ref sig .tc := ⟨.hbm, 723, rfl⟩
abbrev main_call4_call0_v120 : Ref sig .tc := ⟨.hbm, 724, rfl⟩
abbrev main_call4_call0_v121 : Ref sig .tc := ⟨.hbm, 725, rfl⟩
abbrev main_call4_call0_v122 : Ref sig .tc := ⟨.hbm, 726, rfl⟩
abbrev main_call4_call0_c_31 : Ref sig .tc := ⟨.hbm, 727, rfl⟩
abbrev main_call4_call0_v123 : Ref sig .tc := ⟨.hbm, 728, rfl⟩
abbrev main_call4_call0_v124 : Ref sig .tc := ⟨.hbm, 729, rfl⟩
abbrev main_call4_call0_c_32 : Ref sig .tc := ⟨.hbm, 730, rfl⟩
abbrev main_call4_call0_v125 : Ref sig .tc := ⟨.hbm, 731, rfl⟩
abbrev main_call4_call0_v126 : Ref sig .tc := ⟨.hbm, 732, rfl⟩
abbrev main_call4_call0_v127 : Ref sig .tc := ⟨.hbm, 733, rfl⟩
abbrev main_call4_call0_v128 : Ref sig .tc := ⟨.hbm, 734, rfl⟩
abbrev main_call4_call0_v129 : Ref sig .tc := ⟨.hbm, 735, rfl⟩
abbrev main_call4_call0_c_33 : Ref sig .tc := ⟨.hbm, 736, rfl⟩
abbrev main_call4_call0_v130 : Ref sig .tc := ⟨.hbm, 737, rfl⟩
abbrev main_call4_call0_v131 : Ref sig .tc := ⟨.hbm, 738, rfl⟩
abbrev main_call4_call0_c_34 : Ref sig .tc := ⟨.hbm, 739, rfl⟩
abbrev main_call4_call0_v132 : Ref sig .tc := ⟨.hbm, 740, rfl⟩
abbrev main_call4_call0_v133 : Ref sig .tc := ⟨.hbm, 741, rfl⟩
abbrev main_call4_call0_v134 : Ref sig .tc := ⟨.hbm, 742, rfl⟩
abbrev main_call4_call0_v135 : Ref sig .tc := ⟨.hbm, 743, rfl⟩
abbrev main_call4_call0_v136 : Ref sig .tc := ⟨.hbm, 744, rfl⟩
abbrev main_call4_call0_v137 : Ref sig .tc := ⟨.hbm, 745, rfl⟩
abbrev main_call4_call0_v138 : Ref sig .tc := ⟨.hbm, 746, rfl⟩
abbrev main_call4_call0_v139 : Ref sig .tc := ⟨.hbm, 747, rfl⟩
abbrev main_call4_call0_c_35 : Ref sig .tc := ⟨.hbm, 748, rfl⟩
abbrev main_call4_call0_v140 : Ref sig .tc := ⟨.hbm, 749, rfl⟩
abbrev main_call4_call0_v141 : Ref sig .tc := ⟨.hbm, 750, rfl⟩
abbrev main_call4_call0_v142 : Ref sig .tc := ⟨.hbm, 751, rfl⟩
abbrev main_call4_call0_c_36 : Ref sig .tc := ⟨.hbm, 752, rfl⟩
abbrev main_call4_call0_v143 : Ref sig .tc := ⟨.hbm, 753, rfl⟩
abbrev main_call4_call0_v144 : Ref sig .tc := ⟨.hbm, 754, rfl⟩
abbrev main_call4_call0_c_37 : Ref sig .tc := ⟨.hbm, 755, rfl⟩
abbrev main_call4_call0_v145 : Ref sig .tc := ⟨.hbm, 756, rfl⟩
abbrev main_call4_call0_v146 : Ref sig .tc := ⟨.hbm, 757, rfl⟩
abbrev main_call4_call0_v147 : Ref sig .tc := ⟨.hbm, 758, rfl⟩
abbrev main_call4_call0_v148 : Ref sig .tc := ⟨.hbm, 759, rfl⟩
abbrev main_call4_call0_v149 : Ref sig .tc := ⟨.hbm, 760, rfl⟩
abbrev main_call4_call0_c_38 : Ref sig .tc := ⟨.hbm, 761, rfl⟩
abbrev main_call4_call0_v150 : Ref sig .tc := ⟨.hbm, 762, rfl⟩
abbrev main_call4_call0_v151 : Ref sig .tc := ⟨.hbm, 763, rfl⟩
abbrev main_call4_call0_c_39 : Ref sig .tc := ⟨.hbm, 764, rfl⟩
abbrev main_call4_call0_v152 : Ref sig .tc := ⟨.hbm, 765, rfl⟩
abbrev main_call4_call0_v153 : Ref sig .tc := ⟨.hbm, 766, rfl⟩
abbrev main_call4_call0_v154 : Ref sig .tc := ⟨.hbm, 767, rfl⟩
abbrev main_call4_call0_v155 : Ref sig .tc := ⟨.hbm, 768, rfl⟩
abbrev main_call4_call0_v156 : Ref sig .tc := ⟨.hbm, 769, rfl⟩
abbrev main_call4_call0_c_40 : Ref sig .tc := ⟨.hbm, 770, rfl⟩
abbrev main_call4_call0_v157 : Ref sig .tc := ⟨.hbm, 771, rfl⟩
abbrev main_call4_call0_v158 : Ref sig .tc := ⟨.hbm, 772, rfl⟩
abbrev main_call4_call0_c_41 : Ref sig .tc := ⟨.hbm, 773, rfl⟩
abbrev main_call4_call0_v159 : Ref sig .tc := ⟨.hbm, 774, rfl⟩
abbrev main_call4_call0_v160 : Ref sig .tc := ⟨.hbm, 775, rfl⟩
abbrev main_call4_call0_v161 : Ref sig .tc := ⟨.hbm, 776, rfl⟩
abbrev main_call4_call0_v162 : Ref sig .tc := ⟨.hbm, 777, rfl⟩
abbrev main_call4_call0_v163 : Ref sig .tc := ⟨.hbm, 778, rfl⟩
abbrev main_call4_call0_c_42 : Ref sig .tc := ⟨.hbm, 779, rfl⟩
abbrev main_call4_call0_v164 : Ref sig .tc := ⟨.hbm, 780, rfl⟩
abbrev main_call4_call0_v165 : Ref sig .tc := ⟨.hbm, 781, rfl⟩
abbrev main_call4_call0_c_43 : Ref sig .tc := ⟨.hbm, 782, rfl⟩
abbrev main_call4_call0_v166 : Ref sig .tc := ⟨.hbm, 783, rfl⟩
abbrev main_call4_call0_v167 : Ref sig .tc := ⟨.hbm, 784, rfl⟩
abbrev main_call4_call0_v168 : Ref sig .tc := ⟨.hbm, 785, rfl⟩
abbrev main_call4_call0_v169 : Ref sig .tc := ⟨.hbm, 786, rfl⟩
abbrev main_call4_call0_v170 : Ref sig .tc := ⟨.hbm, 787, rfl⟩
abbrev main_call4_v23_0 : Ref sig .tc := ⟨.hbm, 788, rfl⟩
abbrev main_call4_call0_v172 : Ref sig .tc := ⟨.hbm, 789, rfl⟩
abbrev main_call4_call0_v173 : Ref sig .tc := ⟨.hbm, 790, rfl⟩
abbrev main_call4_call0_c_44 : Ref sig .tc := ⟨.hbm, 791, rfl⟩
abbrev main_call4_call0_v174 : Ref sig .tc := ⟨.hbm, 792, rfl⟩
abbrev main_call4_v23_1 : Ref sig .tc := ⟨.hbm, 793, rfl⟩
abbrev main_call4_v24 : Ref sig .tc := ⟨.hbm, 794, rfl⟩
abbrev main_call4_c_3 : Ref sig .tc := ⟨.hbm, 795, rfl⟩
abbrev main_call4_v25 : Ref sig .tc := ⟨.hbm, 796, rfl⟩
abbrev main_call4_v26 : Ref sig .tc := ⟨.hbm, 797, rfl⟩
abbrev main_call4_c_4 : Ref sig .tc := ⟨.hbm, 798, rfl⟩
abbrev main_call4_v27 : Ref sig .tc := ⟨.hbm, 799, rfl⟩
abbrev main_call4_v28 : Ref sig .tc := ⟨.hbm, 800, rfl⟩
abbrev main_call4_v29 : Ref sig .tc := ⟨.hbm, 801, rfl⟩
abbrev main_call4_cst : Ref sig .tc := ⟨.hbm, 802, rfl⟩
abbrev main_call4_v30 : Ref sig .tc := ⟨.hbm, 803, rfl⟩
abbrev main_call4_v31 : Ref sig .tc := ⟨.hbm, 804, rfl⟩
abbrev main_call4_v32 : Ref sig .tc := ⟨.hbm, 805, rfl⟩
abbrev main_call4_v33 : Ref sig .tc := ⟨.hbm, 806, rfl⟩
abbrev main_call4_v34 : Ref sig .tc := ⟨.hbm, 807, rfl⟩
abbrev main_call4_v35 : Ref sig .tc := ⟨.hbm, 808, rfl⟩
abbrev main_call4_v36 : Ref sig .tc := ⟨.hbm, 809, rfl⟩
abbrev main_call4_v37 : Ref sig .tc := ⟨.hbm, 810, rfl⟩
abbrev main_v24 : Ref sig .tc := ⟨.hbm, 811, rfl⟩
abbrev main_v25 : Ref sig .tc := ⟨.hbm, 812, rfl⟩
abbrev main_v26 : Ref sig .tc := ⟨.hbm, 813, rfl⟩
abbrev main_v27 : Ref sig .tc := ⟨.hbm, 814, rfl⟩
abbrev main_v28 : Ref sig .tc := ⟨.hbm, 815, rfl⟩
abbrev main_v29 : Ref sig .tc := ⟨.hbm, 816, rfl⟩
abbrev main_cst_6 : Ref sig .tc := ⟨.hbm, 817, rfl⟩
abbrev main_v30 : Ref sig .tc := ⟨.hbm, 818, rfl⟩
abbrev main_v31 : Ref sig .tc := ⟨.hbm, 819, rfl⟩
abbrev main_cst_7 : Ref sig .tc := ⟨.hbm, 820, rfl⟩
abbrev main_v32 : Ref sig .tc := ⟨.hbm, 821, rfl⟩
abbrev main_cst_8 : Ref sig .tc := ⟨.hbm, 822, rfl⟩
abbrev main_v33 : Ref sig .tc := ⟨.hbm, 823, rfl⟩
abbrev main_v34 : Ref sig .tc := ⟨.hbm, 824, rfl⟩
abbrev main_v35 : Ref sig .tc := ⟨.hbm, 825, rfl⟩
abbrev main_v36 : Ref sig .tc := ⟨.hbm, 826, rfl⟩
abbrev main_v37 : Ref sig .tc := ⟨.hbm, 827, rfl⟩
abbrev main_v38 : Ref sig .tc := ⟨.hbm, 828, rfl⟩
abbrev main_cst_9 : Ref sig .tc := ⟨.hbm, 829, rfl⟩
abbrev main_v39 : Ref sig .tc := ⟨.hbm, 830, rfl⟩
abbrev main_v40 : Ref sig .tc := ⟨.hbm, 831, rfl⟩
abbrev main_v41 : Ref sig .tc := ⟨.hbm, 832, rfl⟩
abbrev main_v42 : Ref sig .tc := ⟨.hbm, 833, rfl⟩
abbrev main_v43 : Ref sig .tc := ⟨.hbm, 834, rfl⟩
abbrev main_v44 : Ref sig .tc := ⟨.hbm, 835, rfl⟩

abbrev nD : Nat := 1
abbrev τ : Topo := Topo.v7x

variable {F : FTy → Type} [FloatOps F]
-- ==== Proof.Ssa.lean ====
/- A straight line of host operations in which operation `j` writes buffer number `j + 1` and reads smaller numbers only:
   after the run every operation's equation holds of the final contents. -/
module

public import Idealize.ShloMosaic.Lib.StableHlo.RunHlo

@[expose] public section

noncomputable section

namespace Cert.Ssa

open Idealize.ShloMosaic Idealize.ShloMosaic.StableHlo Idealize.SL.Sem

variable {nD : Nat} {τ : Topo} {sig : RefSig} {Val : EltTy → Type} {Λ : Labels}

/-- Two lines one after the other are the line of both lists. -/
theorem isSeq_append {p k : Prog (TpuEff nD τ sig Val Λ .tc) PUnit} {xs ys : List (HloOp τ sig Val)}
    (hp : IsSeq p xs) (hk : IsSeq k ys) : IsSeq (p >>= fun _ => k) (xs ++ ys) := by
  unfold IsSeq at *; rw [hp, hk, seq_append]

/-- One operation alone is the line of it. -/
theorem isSeq_last (op : HloOp τ sig Val) :
    IsSeq (nD := nD) (Λ := Λ) (hlo rfl op fun _ => .ret (⟨⟩ : PUnit)) [op] := rfl

/-- Every member of the list satisfies `P`, as nested conjunctions. -/
def All {α : Type} (P : α → Prop) : List α → Prop
  | [] => True
  | a :: l => P a ∧ All P l

theorem All.append {α : Type} {P : α → Prop} : ∀ {xs ys : List α}, All P (xs ++ ys) → All P xs ∧ All P ys
  | [], _, h => ⟨trivial, h⟩
  | _ :: _, _, h => ⟨⟨h.1, (All.append h.2).1⟩, (All.append h.2).2⟩

theorem All.mem {α : Type} {P : α → Prop} : ∀ {xs : List α}, All P xs → ∀ a ∈ xs, P a
  | [], _, _, ha => nomatch ha
  | _ :: _, h, a, ha => by
    rcases List.mem_cons.mp ha with rfl | ha
    · exact h.1
    · exact All.mem h.2 a ha

/-- The number of a buffer in its table. -/
def key (b : DevRef τ sig) : Nat := b.idx.val

/-- The operation writes buffer number `n` alone, and what it writes is decided by the buffers of smaller number. -/
structure Step (n : Nat) (op : HloOp τ sig Val) : Prop where
  writes : ∀ b ∈ op.writes, key b = n
  reads : ∀ F G : Valuation τ sig Val, (∀ b, key b < n → F b = G b) → ∀ b ∈ op.writes, op.result F b = op.result G b
  bufs : op.bufs ⊆ tcRefs τ sig
  fresh : op.fresh = ∅

/-- The line writes the buffers numbered `n`, `n + 1`, …, up to `k`, in order. -/
def Chain : Nat → List (HloOp τ sig Val) → Nat → Prop
  | n, [], k => n = k
  | n, op :: l, k => Step n op ∧ Chain (n + 1) l k

theorem Chain.cons {n k : Nat} {op : HloOp τ sig Val} {l : List (HloOp τ sig Val)} (h : Step n op) (h' : Chain (n + 1) l k) :
    Chain n (op :: l) k := ⟨h, h'⟩

theorem Chain.append : ∀ {n m k : Nat} {xs ys : List (HloOp τ sig Val)}, Chain n xs m → Chain m ys k → Chain n (xs ++ ys) k
  | _, _, _, [], _, h, h' => by cases h; exact h'
  | _, _, _, _ :: _, _, h, h' => ⟨h.1, Chain.append h.2 h'⟩

/-- The operation's equation holds of the contents `F`. -/
def Good (F : Valuation τ sig Val) (op : HloOp τ sig Val) : Prop := ∀ b ∈ op.writes, F b = op.result F b

/-- A chain leaves the buffers below its first number alone. -/
theorem Chain.keeps : ∀ {n k : Nat} {ops : List (HloOp τ sig Val)} (_ : Chain n ops k) (V : Valuation τ sig Val)
    (b : DevRef τ sig), key b < n → after ops V b = V b
  | _, _, [], _, _, _, _ => rfl
  | n, _, op :: l, h, V, b, hb => by
    rw [after_cons, Chain.keeps h.2 _ b (by omega), op.result_of_not_mem V fun hm => by have := h.1.writes b hm; omega]

/-- After a chain every operation's equation holds. -/
theorem Chain.good : ∀ {n k : Nat} {ops : List (HloOp τ sig Val)} (_ : Chain n ops k) (V : Valuation τ sig Val),
    All (Good (after ops V)) ops
  | _, _, [], _, _ => trivial
  | n, _, op :: l, h, V => by
    refine ⟨fun b hb => ?_, Chain.good h.2 _⟩
    have hk := h.1.writes b hb
    rw [after_cons, Chain.keeps h.2 _ b (by omega)]
    refine h.1.reads _ _ (fun b' hb' => ?_) b hb
    rw [Chain.keeps h.2 _ b' (by omega), op.result_of_not_mem V fun hm => by have := h.1.writes b' hm; omega]

theorem Chain.bufs : ∀ {n k : Nat} {ops : List (HloOp τ sig Val)}, Chain n ops k → ∀ op ∈ ops, op.bufs ⊆ tcRefs τ sig ∧ op.fresh = ∅
  | _, _, [], _, _, h => nomatch h
  | _, _, _ :: _, h, o, ho => by
    rcases List.mem_cons.mp ho with rfl | ho
    · exact ⟨h.1.bufs, h.1.fresh⟩
    · exact Chain.bufs h.2 o ho

/-! ## The builders -/

section Raw

variable {x a b c e y : Ref sig .tc} {n : Nat}

theorem step_nullary (v : y.ty.Contents Val) (hy) (h : key (Proc.devRef (τ := τ) .tc y) = n) :
    Step n (nullary (τ := τ) y v hy) where
  writes b hb := by rw [nullary_writes, Finset.mem_singleton] at hb; subst hb; exact h
  reads F G _ b hb := by
    rw [nullary_writes, Finset.mem_singleton] at hb; subst hb; rw [nullary_result, nullary_result]
  bufs := nullary_bufs_sub ..
  fresh := rfl

theorem step_unary (f : x.ty.Contents Val → y.ty.Contents Val) (hx hy) (h : key (Proc.devRef (τ := τ) .tc y) = n)
    (h1 : key (Proc.devRef (τ := τ) .tc x) < n) : Step n (unary (τ := τ) x y f hx hy) where
  writes b hb := by rw [unary_writes, Finset.mem_singleton] at hb; subst hb; exact h
  reads F G hFG b hb := by
    rw [unary_writes, Finset.mem_singleton] at hb; subst hb; rw [unary_result, unary_result, hFG _ h1]
  bufs := unary_bufs_sub ..
  fresh := rfl

theorem step_reshape (he hn hx hy) (h : key (Proc.devRef (τ := τ) .tc y) = n)
    (h1 : key (Proc.devRef (τ := τ) .tc x) < n) : Step n (reshape (τ := τ) (Val := Val) x y he hn hx hy) where
  writes b hb := by rw [reshape_writes, Finset.mem_singleton] at hb; subst hb; exact h
  reads F G hFG b hb := by
    rw [reshape_writes, Finset.mem_singleton] at hb; subst hb; rw [reshape_result, reshape_result, hFG _ h1]
  bufs := reshape_bufs_sub ..
  fresh := rfl

theorem step_binary (f : a.ty.Contents Val → b.ty.Contents Val → y.ty.Contents Val) (ha hb hy)
    (h : key (Proc.devRef (τ := τ) .tc y) = n) (h1 : key (Proc.devRef (τ := τ) .tc a) < n)
    (h2 : key (Proc.devRef (τ := τ) .tc b) < n) : Step n (binary (τ := τ) a b y f ha hb hy) where
  writes b hb := by rw [binary_writes, Finset.mem_singleton] at hb; subst hb; exact h
  reads F G hFG b hb := by
    rw [binary_writes, Finset.mem_singleton] at hb; subst hb; rw [binary_result, binary_result, hFG _ h1, hFG _ h2]
  bufs := binary_bufs_sub ..
  fresh := rfl

theorem step_quaternary
    (f : a.ty.Contents Val → b.ty.Contents Val → c.ty.Contents Val → e.ty.Contents Val → y.ty.Contents Val) (ha hb hc he hy)
    (h : key (Proc.devRef (τ := τ) .tc y) = n) (h1 : key (Proc.devRef (τ := τ) .tc a) < n)
    (h2 : key (Proc.devRef (τ := τ) .tc b) < n) (h3 : key (Proc.devRef (τ := τ) .tc c) < n)
    (h4 : key (Proc.devRef (τ := τ) .tc e) < n) : Step n (quaternary (τ := τ) a b c e y f ha hb hc he hy) where
  writes b hb := by rw [quaternary_writes, Finset.mem_singleton] at hb; subst hb; exact h
  reads F G hFG b hb := by
    rw [quaternary_writes, Finset.mem_singleton] at hb; subst hb
    rw [quaternary_result, quaternary_result, hFG _ h1, hFG _ h2, hFG _ h3, hFG _ h4]
  bufs := quaternary_bufs_sub ..
  fresh := rfl

theorem good_nullary {F : Valuation τ sig Val} {v : y.ty.Contents Val} {hy} (h : Good F (nullary (τ := τ) y v hy)) :
    F (Proc.devRef .tc y) = v :=
  (h _ (by rw [nullary_writes]; exact Finset.mem_singleton_self _)).trans (nullary_result ..)

theorem good_unary {F : Valuation τ sig Val} {f : x.ty.Contents Val → y.ty.Contents Val} {hx hy}
    (h : Good F (unary (τ := τ) x y f hx hy)) : F (Proc.devRef .tc y) = f (F (Proc.devRef .tc x)) :=
  (h _ (by rw [unary_writes]; exact Finset.mem_singleton_self _)).trans (unary_result ..)

theorem good_reshape {F : Valuation τ sig Val} {he hn hx hy}
    (h : Good F (reshape (τ := τ) (Val := Val) x y he hn hx hy)) :
    F (Proc.devRef .tc y) = fun i => he ▸ shapeCast y.ty.shape (F (Proc.devRef .tc x)) hn i :=
  (h _ (by rw [reshape_writes]; exact Finset.mem_singleton_self _)).trans (reshape_result ..)

theorem good_binary {F : Valuation τ sig Val} {f : a.ty.Contents Val → b.ty.Contents Val → y.ty.Contents Val} {ha hb hy}
    (h : Good F (binary (τ := τ) a b y f ha hb hy)) :
    F (Proc.devRef .tc y) = f (F (Proc.devRef .tc a)) (F (Proc.devRef .tc b)) :=
  (h _ (by rw [binary_writes]; exact Finset.mem_singleton_self _)).trans (binary_result ..)

theorem good_quaternary {F : Valuation τ sig Val}
    {f : a.ty.Contents Val → b.ty.Contents Val → c.ty.Contents Val → e.ty.Contents Val → y.ty.Contents Val} {ha hb hc he hy}
    (h : Good F (quaternary (τ := τ) a b c e y f ha hb hc he hy)) :
    F (Proc.devRef .tc y)
      = f (F (Proc.devRef .tc a)) (F (Proc.devRef .tc b)) (F (Proc.devRef .tc c)) (F (Proc.devRef .tc e)) :=
  (h _ (by rw [quaternary_writes]; exact Finset.mem_singleton_self _)).trans (quaternary_result ..)

end Raw

/-! ## The same over typed references -/

section Typed

variable {Tx Ta Tb Tc Te Ty : BufTy} {n : Nat}

/-- What the referenced buffer holds, at the value's type. -/
def val (F : Valuation τ sig Val) (x : TRef sig Tx) : Tx.Contents Val := x.ofBuf (F (Proc.devRef .tc x.ref))

/-- The number of a typed reference's buffer. -/
abbrev tkey (τ : Topo) (x : TRef sig Tx) : Nat := key (Proc.devRef (τ := τ) .tc x.ref)

theorem tstep_nullary {y : TRef sig Ty} {v : Ty.Contents Val} (h : tkey τ y = n) : Step n (TRef.nullary (τ := τ) y v) :=
  step_nullary _ _ h

theorem tstep_unary {x : TRef sig Tx} {y : TRef sig Ty} {f : Tx.Contents Val → Ty.Contents Val} (h : tkey τ y = n)
    (h1 : tkey τ x < n) : Step n (TRef.unary (τ := τ) x y f) := step_unary _ _ _ h h1

theorem tstep_reshape {x : TRef sig Tx} {y : TRef sig Ty} {he hn} (h : tkey τ y = n)
    (h1 : tkey τ x < n) : Step n (TRef.reshape (τ := τ) (Val := Val) x y he hn) := step_reshape _ _ _ _ h h1

theorem tstep_binary {a : TRef sig Ta} {b : TRef sig Tb} {y : TRef sig Ty}
    {f : Ta.Contents Val → Tb.Contents Val → Ty.Contents Val} (h : tkey τ y = n)
    (h1 : tkey τ a < n) (h2 : tkey τ b < n) : Step n (TRef.binary (τ := τ) a b y f) := step_binary _ _ _ _ h h1 h2

theorem tstep_quaternary {a : TRef sig Ta} {b : TRef sig Tb} {c : TRef sig Tc} {e : TRef sig Te} {y : TRef sig Ty}
    {f : Ta.Contents Val → Tb.Contents Val → Tc.Contents Val → Te.Contents Val → Ty.Contents Val} (h : tkey τ y = n)
    (h1 : tkey τ a < n) (h2 : tkey τ b < n) (h3 : tkey τ c < n) (h4 : tkey τ e < n) :
    Step n (TRef.quaternary (τ := τ) a b c e y f) := step_quaternary _ _ _ _ _ _ h h1 h2 h3 h4

variable {F : Valuation τ sig Val}

theorem val_nullary {y : TRef sig Ty} {v : Ty.Contents Val} (h : Good F (TRef.nullary (τ := τ) y v)) : val F y = v := by
  obtain ⟨y, rfl, _, _⟩ := y
  exact good_nullary h

theorem val_unary {x : TRef sig Tx} {y : TRef sig Ty} {f : Tx.Contents Val → Ty.Contents Val}
    (h : Good F (TRef.unary (τ := τ) x y f)) : val F y = f (val F x) := by
  obtain ⟨x, rfl, _, _⟩ := x
  obtain ⟨y, rfl, _, _⟩ := y
  exact good_unary h

theorem val_reshape {x : TRef sig Tx} {y : TRef sig Ty} {he hn}
    (h : Good F (TRef.reshape (τ := τ) x y he hn)) : val F y = fun i => he ▸ shapeCast Ty.shape (val F x) hn i := by
  obtain ⟨x, rfl, _, _⟩ := x
  obtain ⟨y, rfl, _, _⟩ := y
  exact good_reshape h

theorem val_binary {a : TRef sig Ta} {b : TRef sig Tb} {y : TRef sig Ty}
    {f : Ta.Contents Val → Tb.Contents Val → Ty.Contents Val}
    (h : Good F (TRef.binary (τ := τ) a b y f)) : val F y = f (val F a) (val F b) := by
  obtain ⟨a, rfl, _, _⟩ := a
  obtain ⟨b, rfl, _, _⟩ := b
  obtain ⟨y, rfl, _, _⟩ := y
  exact good_binary h

theorem val_quaternary {a : TRef sig Ta} {b : TRef sig Tb} {c : TRef sig Tc} {e : TRef sig Te} {y : TRef sig Ty}
    {f : Ta.Contents Val → Tb.Contents Val → Tc.Contents Val → Te.Contents Val → Ty.Contents Val}
    (h : Good F (TRef.quaternary (τ := τ) a b c e y f)) : val F y = f (val F a) (val F b) (val F c) (val F e) := by
  obtain ⟨a, rfl, _, _⟩ := a
  obtain ⟨b, rfl, _, _⟩ := b
  obtain ⟨c, rfl, _, _⟩ := c
  obtain ⟨e, rfl, _, _⟩ := e
  obtain ⟨y, rfl, _, _⟩ := y
  exact good_quaternary h

end Typed

end Cert.Ssa

end
-- ==== Proof.Line.lean ====
/- The reference's `main` as one line of operations, read off the functions' bodies part by part, and the numbering of its buffers. -/
module

public import proofs.«01_k».proof.ReferenceIdeal
public import proofs.«01_k».proof.Proof.Gen.ReferenceIdeal
public import proofs.«01_k».proof.Proof.Ssa

@[expose] public section

set_option maxRecDepth 100000

noncomputable section

namespace Cert.ReferenceIdeal.Line

open Cert.ReferenceIdeal Cert.ReferenceIdeal.Gen Cert.Ssa Idealize.ShloMosaic Idealize.ShloMosaic.StableHlo Idealize.SL.Sem

variable {F : FTy → Type} [FloatOps F]

/-- A body with the list of its operations. -/
abbrev Ops (p : Prog (TpuEff nD τ sig (Elt F) (Pipeline.Sig Λ₀ (Fin 0) fun p => (pcfgs (F := F) p).Adm) .tc) PUnit) : Type :=
  {l : List (HloOp τ sig (Elt F)) // IsSeq p l}

section Keys

variable (a0 a1 : TRef sig ⟨S_, .i32⟩) (a2 a3 : TRef sig ⟨S2, .i32⟩) (φ : fn_threefry2x32.Bufs)

def tfKeys0 : Ops (F := F) (fn_threefry2x32.body_part0 a0 a1 a2 a3 φ) := by
  apply Subtype.mk; unfold fn_threefry2x32.body_part0
  repeat (first | exact IsSeq.nil | exact isSeq_last _ | apply IsSeq.cons)

def tfKeys1 : Ops (F := F) (fn_threefry2x32.body_part1 a0 a1 a2 a3 φ) := by
  apply Subtype.mk; unfold fn_threefry2x32.body_part1
  repeat (first | exact IsSeq.nil | exact isSeq_last _ | apply IsSeq.cons)

def tfKeys2 : Ops (F := F) (fn_threefry2x32.body_part2 a0 a1 a2 a3 φ) := by
  apply Subtype.mk; unfold fn_threefry2x32.body_part2
  repeat (first | exact IsSeq.nil | exact isSeq_last _ | apply IsSeq.cons)

def tfKeys3 : Ops (F := F) (fn_threefry2x32.body_part3 a0 a1 a2 a3 φ) := by
  apply Subtype.mk; unfold fn_threefry2x32.body_part3
  repeat (first | exact IsSeq.nil | exact isSeq_last _ | apply IsSeq.cons)

/-- The operations of the whole body: its four parts in order. -/
def tfKeys : Ops (F := F) (fn_threefry2x32.body a0 a1 a2 a3 φ) :=
  ⟨(tfKeys0 a0 a1 a2 a3 φ).1 ++ ((tfKeys1 a0 a1 a2 a3 φ).1 ++ ((tfKeys2 a0 a1 a2 a3 φ).1 ++ (tfKeys3 a0 a1 a2 a3 φ).1)),
    isSeq_append (tfKeys0 a0 a1 a2 a3 φ).2 (isSeq_append (tfKeys1 a0 a1 a2 a3 φ).2
      (isSeq_append (tfKeys2 a0 a1 a2 a3 φ).2 (tfKeys3 a0 a1 a2 a3 φ).2))⟩

end Keys

section Bits

variable (a0 a1 : TRef sig ⟨S_, .i32⟩) (a2 a3 : TRef sig ⟨S256x4096x20, .i32⟩) (φ : fn_threefry2x32_0.Bufs)

def tfBits0 : Ops (F := F) (fn_threefry2x32_0.body_part0 a0 a1 a2 a3 φ) := by
  apply Subtype.mk; unfold fn_threefry2x32_0.body_part0
  repeat (first | exact IsSeq.nil | exact isSeq_last _ | apply IsSeq.cons)

def tfBits1 : Ops (F := F) (fn_threefry2x32_0.body_part1 a0 a1 a2 a3 φ) := by
  apply Subtype.mk; unfold fn_threefry2x32_0.body_part1
  repeat (first | exact IsSeq.nil | exact isSeq_last _ | apply IsSeq.cons)

def tfBits2 : Ops (F := F) (fn_threefry2x32_0.body_part2 a0 a1 a2 a3 φ) := by
  apply Subtype.mk; unfold fn_threefry2x32_0.body_part2
  repeat (first | exact IsSeq.nil | exact isSeq_last _ | apply IsSeq.cons)

def tfBits3 : Ops (F := F) (fn_threefry2x32_0.body_part3 a0 a1 a2 a3 φ) := by
  apply Subtype.mk; unfold fn_threefry2x32_0.body_part3
  repeat (first | exact IsSeq.nil | exact isSeq_last _ | apply IsSeq.cons)

/-- The operations of the whole body: its four parts in order. -/
def tfBits : Ops (F := F) (fn_threefry2x32_0.body a0 a1 a2 a3 φ) :=
  ⟨(tfBits0 a0 a1 a2 a3 φ).1 ++ ((tfBits1 a0 a1 a2 a3 φ).1 ++ ((tfBits2 a0 a1 a2 a3 φ).1 ++ (tfBits3 a0 a1 a2 a3 φ).1)),
    isSeq_append (tfBits0 a0 a1 a2 a3 φ).2 (isSeq_append (tfBits1 a0 a1 a2 a3 φ).2
      (isSeq_append (tfBits2 a0 a1 a2 a3 φ).2 (tfBits3 a0 a1 a2 a3 φ).2))⟩

end Bits

section Soft

variable (a0 a1 : TRef sig ⟨S_, .i32⟩) (a2 a3 : TRef sig ⟨S256x20x4096, .i32⟩) (φ : fn_threefry2x32_2.Bufs)

def tfSoft0 : Ops (F := F) (fn_threefry2x32_2.body_part0 a0 a1 a2 a3 φ) := by
  apply Subtype.mk; unfold fn_threefry2x32_2.body_part0
  repeat (first | exact IsSeq.nil | exact isSeq_last _ | apply IsSeq.cons)

def tfSoft1 : Ops (F := F) (fn_threefry2x32_2.body_part1 a0 a1 a2 a3 φ) := by
  apply Subtype.mk; unfold fn_threefry2x32_2.body_part1
  repeat (first | exact IsSeq.nil | exact isSeq_last _ | apply IsSeq.cons)

def tfSoft2 : Ops (F := F) (fn_threefry2x32_2.body_part2 a0 a1 a2 a3 φ) := by
  apply Subtype.mk; unfold fn_threefry2x32_2.body_part2
  repeat (first | exact IsSeq.nil | exact isSeq_last _ | apply IsSeq.cons)

def tfSoft3 : Ops (F := F) (fn_threefry2x32_2.body_part3 a0 a1 a2 a3 φ) := by
  apply Subtype.mk; unfold fn_threefry2x32_2.body_part3
  repeat (first | exact IsSeq.nil | exact isSeq_last _ | apply IsSeq.cons)

/-- The operations of the whole body: its four parts in order. -/
def tfSoft : Ops (F := F) (fn_threefry2x32_2.body a0 a1 a2 a3 φ) :=
  ⟨(tfSoft0 a0 a1 a2 a3 φ).1 ++ ((tfSoft1 a0 a1 a2 a3 φ).1 ++ ((tfSoft2 a0 a1 a2 a3 φ).1 ++ (tfSoft3 a0 a1 a2 a3 φ).1)),
    isSeq_append (tfSoft0 a0 a1 a2 a3 φ).2 (isSeq_append (tfSoft1 a0 a1 a2 a3 φ).2
      (isSeq_append (tfSoft2 a0 a1 a2 a3 φ).2 (tfSoft3 a0 a1 a2 a3 φ).2))⟩

end Soft

/-! ## The functions that call them, and `main` -/

def split (a : TRef sig ⟨S2, .i32⟩) (φ : fn_threefry_split.Bufs) : Ops (F := F) (fn_threefry_split.body a φ) := by
  apply Subtype.mk; unfold fn_threefry_split.body
  repeat (first | exact IsSeq.nil | exact isSeq_last _ | apply IsSeq.cons | apply isSeq_append (tfKeys _ _ _ _ _).2)

def uniform (a : TRef sig ⟨S2, .i32⟩) (b c : TRef sig ⟨S_, .f32⟩) (φ : fn_uniform.Bufs) : Ops (F := F) (fn_uniform.body a b c φ) := by
  apply Subtype.mk; unfold fn_uniform.body
  repeat (first | exact IsSeq.nil | exact isSeq_last _ | apply IsSeq.cons | apply isSeq_append (tfBits _ _ _ _ _).2)

def uniformSoft (a : TRef sig ⟨S2, .i32⟩) (b c : TRef sig ⟨S_, .f32⟩) (φ : fn_uniform_1.Bufs) : Ops (F := F) (fn_uniform_1.body a b c φ) := by
  apply Subtype.mk; unfold fn_uniform_1.body
  repeat (first | exact IsSeq.nil | exact isSeq_last _ | apply IsSeq.cons | apply isSeq_append (tfSoft _ _ _ _ _).2)

def argmax (a : TRef sig ⟨S256x4096x20, .f32⟩) (φ : fn_argmax.Bufs) : Ops (F := F) (fn_argmax.body a φ) := by
  apply Subtype.mk; unfold fn_argmax.body
  repeat (first | exact IsSeq.nil | exact isSeq_last _ | apply IsSeq.cons)

def oneHot (a : TRef sig ⟨S256x4096, .i32⟩) (φ : fn_one_hot.Bufs) : Ops (F := F) (fn_one_hot.body a φ) := by
  apply Subtype.mk; unfold fn_one_hot.body
  repeat (first | exact IsSeq.nil | exact isSeq_last _ | apply IsSeq.cons)

def line (d : Dev nD) : Ops (F := F) (main (F := F) d) := by
  apply Subtype.mk; unfold main
  repeat (first | exact IsSeq.nil | exact isSeq_last _ | apply IsSeq.cons | apply isSeq_append (split _ _).2 | apply isSeq_append (uniform _ _ _ _).2 | apply isSeq_append (argmax _ _).2 | apply isSeq_append (oneHot _ _).2 | apply isSeq_append (uniformSoft _ _ _ _).2)

end Cert.ReferenceIdeal.Line

end
-- ==== Proof.Order.lean ====
/- The reference's operations write the buffers 1, 2, …, 836 in order, each from buffers of smaller number. -/
module

public import proofs.«01_k».proof.Proof.Line

@[expose] public section

set_option maxRecDepth 100000

noncomputable section

namespace Cert.ReferenceIdeal.Line

open Cert.ReferenceIdeal Cert.ReferenceIdeal.Gen Cert.Ssa Idealize.ShloMosaic Idealize.ShloMosaic.StableHlo Idealize.SL.Sem

variable {F : FTy → Type} [FloatOps F]

theorem lt_of_ble {a b : Nat} (h : Nat.ble (a + 1) b = true) : a < b := Nat.le_of_ble_eq_true h

theorem chainKeys0 : Chain 24 (tfKeys0 (F := F) main_call0.v1 main_call0.v3 main_call0.v10 main_call0.v9 main_call0.call0).1 84 := by
  repeat (first
    | exact (rfl : (_ : Nat) = _)
    | refine Chain.cons (tstep_nullary rfl) ?_
    | refine Chain.cons (tstep_unary rfl (lt_of_ble rfl)) ?_
    | refine Chain.cons (tstep_binary rfl (lt_of_ble rfl) (lt_of_ble rfl)) ?_)

theorem chainKeys1 : Chain 84 (tfKeys1 (F := F) main_call0.v1 main_call0.v3 main_call0.v10 main_call0.v9 main_call0.call0).1 144 := by
  repeat (first
    | exact (rfl : (_ : Nat) = _)
    | refine Chain.cons (tstep_nullary rfl) ?_
    | refine Chain.cons (tstep_unary rfl (lt_of_ble rfl)) ?_
    | refine Chain.cons (tstep_binary rfl (lt_of_ble rfl) (lt_of_ble rfl)) ?_)

theorem chainKeys2 : Chain 144 (tfKeys2 (F := F) main_call0.v1 main_call0.v3 main_call0.v10 main_call0.v9 main_call0.call0).1 204 := by
  repeat (first
    | exact (rfl : (_ : Nat) = _)
    | refine Chain.cons (tstep_nullary rfl) ?_
    | refine Chain.cons (tstep_unary rfl (lt_of_ble rfl)) ?_
    | refine Chain.cons (tstep_binary rfl (lt_of_ble rfl) (lt_of_ble rfl)) ?_)

theorem chainKeys3 : Chain 204 (tfKeys3 (F := F) main_call0.v1 main_call0.v3 main_call0.v10 main_call0.v9 main_call0.call0).1 246 := by
  repeat (first
    | exact (rfl : (_ : Nat) = _)
    | refine Chain.cons (tstep_nullary rfl) ?_
    | refine Chain.cons (tstep_unary rfl (lt_of_ble rfl)) ?_
    | refine Chain.cons (tstep_binary rfl (lt_of_ble rfl) (lt_of_ble rfl)) ?_)

theorem chainKeys : Chain 24 (tfKeys (F := F) main_call0.v1 main_call0.v3 main_call0.v10 main_call0.v9 main_call0.call0).1 246 :=
  chainKeys0.append (chainKeys1.append (chainKeys2.append chainKeys3))

theorem chainBits0 : Chain 283 (tfBits0 (F := F) main_call1.v5 main_call1.v7 main_call1.v22 main_call1.v21 main_call1.call0).1 343 := by
  repeat (first
    | exact (rfl : (_ : Nat) = _)
    | refine Chain.cons (tstep_nullary rfl) ?_
    | refine Chain.cons (tstep_unary rfl (lt_of_ble rfl)) ?_
    | refine Chain.cons (tstep_binary rfl (lt_of_ble rfl) (lt_of_ble rfl)) ?_)

theorem chainBits1 : Chain 343 (tfBits1 (F := F) main_call1.v5 main_call1.v7 main_call1.v22 main_call1.v21 main_call1.call0).1 403 := by
  repeat (first
    | exact (rfl : (_ : Nat) = _)
    | refine Chain.cons (tstep_nullary rfl) ?_
    | refine Chain.cons (tstep_unary rfl (lt_of_ble rfl)) ?_
    | refine Chain.cons (tstep_binary rfl (lt_of_ble rfl) (lt_of_ble rfl)) ?_)

theorem chainBits2 : Chain 403 (tfBits2 (F := F) main_call1.v5 main_call1.v7 main_call1.v22 main_call1.v21 main_call1.call0).1 463 := by
  repeat (first
    | exact (rfl : (_ : Nat) = _)
    | refine Chain.cons (tstep_nullary rfl) ?_
    | refine Chain.cons (tstep_unary rfl (lt_of_ble rfl)) ?_
    | refine Chain.cons (tstep_binary rfl (lt_of_ble rfl) (lt_of_ble rfl)) ?_)

theorem chainBits3 : Chain 463 (tfBits3 (F := F) main_call1.v5 main_call1.v7 main_call1.v22 main_call1.v21 main_call1.call0).1 505 := by
  repeat (first
    | exact (rfl : (_ : Nat) = _)
    | refine Chain.cons (tstep_nullary rfl) ?_
    | refine Chain.cons (tstep_unary rfl (lt_of_ble rfl)) ?_
    | refine Chain.cons (tstep_binary rfl (lt_of_ble rfl) (lt_of_ble rfl)) ?_)

theorem chainBits : Chain 283 (tfBits (F := F) main_call1.v5 main_call1.v7 main_call1.v22 main_call1.v21 main_call1.call0).1 505 :=
  chainBits0.append (chainBits1.append (chainBits2.append chainBits3))

theorem chainSoft0 : Chain 572 (tfSoft0 (F := F) main_call4.v5 main_call4.v7 main_call4.v22 main_call4.v21 main_call4.call0).1 632 := by
  repeat (first
    | exact (rfl : (_ : Nat) = _)
    | refine Chain.cons (tstep_nullary rfl) ?_
    | refine Chain.cons (tstep_unary rfl (lt_of_ble rfl)) ?_
    | refine Chain.cons (tstep_binary rfl (lt_of_ble rfl) (lt_of_ble rfl)) ?_)

theorem chainSoft1 : Chain 632 (tfSoft1 (F := F) main_call4.v5 main_call4.v7 main_call4.v22 main_call4.v21 main_call4.call0).1 692 := by
  repeat (first
    | exact (rfl : (_ : Nat) = _)
    | refine Chain.cons (tstep_nullary rfl) ?_
    | refine Chain.cons (tstep_unary rfl (lt_of_ble rfl)) ?_
    | refine Chain.cons (tstep_binary rfl (lt_of_ble rfl) (lt_of_ble rfl)) ?_)

theorem chainSoft2 : Chain 692 (tfSoft2 (F := F) main_call4.v5 main_call4.v7 main_call4.v22 main_call4.v21 main_call4.call0).1 752 := by
  repeat (first
    | exact (rfl : (_ : Nat) = _)
    | refine Chain.cons (tstep_nullary rfl) ?_
    | refine Chain.cons (tstep_unary rfl (lt_of_ble rfl)) ?_
    | refine Chain.cons (tstep_binary rfl (lt_of_ble rfl) (lt_of_ble rfl)) ?_)

theorem chainSoft3 : Chain 752 (tfSoft3 (F := F) main_call4.v5 main_call4.v7 main_call4.v22 main_call4.v21 main_call4.call0).1 794 := by
  repeat (first
    | exact (rfl : (_ : Nat) = _)
    | refine Chain.cons (tstep_nullary rfl) ?_
    | refine Chain.cons (tstep_unary rfl (lt_of_ble rfl)) ?_
    | refine Chain.cons (tstep_binary rfl (lt_of_ble rfl) (lt_of_ble rfl)) ?_)

theorem chainSoft : Chain 572 (tfSoft (F := F) main_call4.v5 main_call4.v7 main_call4.v22 main_call4.v21 main_call4.call0).1 794 :=
  chainSoft0.append (chainSoft1.append (chainSoft2.append chainSoft3))

theorem chainSplit : Chain 11 (split (F := F) (.of main_v6) main_call0).1 249 := by
  repeat (first
    | exact (rfl : (_ : Nat) = _)
    | refine Chain.cons (tstep_nullary rfl) ?_
    | refine Chain.cons (tstep_unary rfl (lt_of_ble rfl)) ?_
    | refine Chain.cons (tstep_binary rfl (lt_of_ble rfl) (lt_of_ble rfl)) ?_
    | refine Chain.cons (tstep_reshape rfl (lt_of_ble rfl)) ?_
    | refine Chain.cons (tstep_quaternary rfl (lt_of_ble rfl) (lt_of_ble rfl) (lt_of_ble rfl) (lt_of_ble rfl)) ?_
    | refine Chain.append chainKeys ?_)

theorem chainUniform : Chain 256 (uniform (F := F) (.of main_v9) (.of main_cst) (.of main_cst_2) main_call1).1 523 := by
  repeat (first
    | exact (rfl : (_ : Nat) = _)
    | refine Chain.cons (tstep_nullary rfl) ?_
    | refine Chain.cons (tstep_unary rfl (lt_of_ble rfl)) ?_
    | refine Chain.cons (tstep_binary rfl (lt_of_ble rfl) (lt_of_ble rfl)) ?_
    | refine Chain.cons (tstep_reshape rfl (lt_of_ble rfl)) ?_
    | refine Chain.cons (tstep_quaternary rfl (lt_of_ble rfl) (lt_of_ble rfl) (lt_of_ble rfl) (lt_of_ble rfl)) ?_
    | refine Chain.append chainBits ?_)

theorem chainUniformSoft : Chain 545 (uniformSoft (F := F) (.of main_v11) (.of main_cst_4) (.of main_cst_5) main_call4).1 812 := by
  repeat (first
    | exact (rfl : (_ : Nat) = _)
    | refine Chain.cons (tstep_nullary rfl) ?_
    | refine Chain.cons (tstep_unary rfl (lt_of_ble rfl)) ?_
    | refine Chain.cons (tstep_binary rfl (lt_of_ble rfl) (lt_of_ble rfl)) ?_
    | refine Chain.cons (tstep_reshape rfl (lt_of_ble rfl)) ?_
    | refine Chain.cons (tstep_quaternary rfl (lt_of_ble rfl) (lt_of_ble rfl) (lt_of_ble rfl) (lt_of_ble rfl)) ?_
    | refine Chain.append chainSoft ?_)

theorem chainArgmax : Chain 531 (argmax (F := F) (.of main_v20) main_call2).1 536 := by
  repeat (first
    | exact (rfl : (_ : Nat) = _)
    | refine Chain.cons (tstep_nullary rfl) ?_
    | refine Chain.cons (tstep_unary rfl (lt_of_ble rfl)) ?_
    | refine Chain.cons (tstep_binary rfl (lt_of_ble rfl) (lt_of_ble rfl)) ?_
    | refine Chain.cons (tstep_reshape rfl (lt_of_ble rfl)) ?_
    | refine Chain.cons (tstep_quaternary rfl (lt_of_ble rfl) (lt_of_ble rfl) (lt_of_ble rfl) (lt_of_ble rfl)) ?_)

theorem chainOneHot : Chain 536 (oneHot (F := F) (.of main_v21) main_call3).1 542 := by
  repeat (first
    | exact (rfl : (_ : Nat) = _)
    | refine Chain.cons (tstep_nullary rfl) ?_
    | refine Chain.cons (tstep_unary rfl (lt_of_ble rfl)) ?_
    | refine Chain.cons (tstep_binary rfl (lt_of_ble rfl) (lt_of_ble rfl)) ?_
    | refine Chain.cons (tstep_reshape rfl (lt_of_ble rfl)) ?_
    | refine Chain.cons (tstep_quaternary rfl (lt_of_ble rfl) (lt_of_ble rfl) (lt_of_ble rfl) (lt_of_ble rfl)) ?_)

/-- The whole line, in order. -/
theorem chain (d : Dev nD) : Chain 1 (line (F := F) d).1 836 := by
  iterate 10 (first
    | refine Chain.cons (step_nullary _ _ rfl) ?_
    | refine Chain.cons (step_unary _ _ _ rfl (lt_of_ble rfl)) ?_
    | refine Chain.cons (step_binary _ _ _ _ rfl (lt_of_ble rfl) (lt_of_ble rfl)) ?_
    | refine Chain.cons (step_reshape _ _ _ _ rfl (lt_of_ble rfl)) ?_)
  refine Chain.append chainSplit ?_
  iterate 7 (first
    | refine Chain.cons (step_nullary _ _ rfl) ?_
    | refine Chain.cons (step_unary _ _ _ rfl (lt_of_ble rfl)) ?_
    | refine Chain.cons (step_binary _ _ _ _ rfl (lt_of_ble rfl) (lt_of_ble rfl)) ?_
    | refine Chain.cons (step_reshape _ _ _ _ rfl (lt_of_ble rfl)) ?_)
  refine Chain.append chainUniform ?_
  iterate 8 (first
    | refine Chain.cons (step_nullary _ _ rfl) ?_
    | refine Chain.cons (step_unary _ _ _ rfl (lt_of_ble rfl)) ?_
    | refine Chain.cons (step_binary _ _ _ _ rfl (lt_of_ble rfl) (lt_of_ble rfl)) ?_
    | refine Chain.cons (step_reshape _ _ _ _ rfl (lt_of_ble rfl)) ?_)
  refine Chain.append chainArgmax ?_
  refine Chain.append chainOneHot ?_
  iterate 3 (first
    | refine Chain.cons (step_nullary _ _ rfl) ?_
    | refine Chain.cons (step_unary _ _ _ rfl (lt_of_ble rfl)) ?_
    | refine Chain.cons (step_binary _ _ _ _ rfl (lt_of_ble rfl) (lt_of_ble rfl)) ?_
    | refine Chain.cons (step_reshape _ _ _ _ rfl (lt_of_ble rfl)) ?_)
  refine Chain.append chainUniformSoft ?_
  iterate 24 (first
    | refine Chain.cons (step_nullary _ _ rfl) ?_
    | refine Chain.cons (step_unary _ _ _ rfl (lt_of_ble rfl)) ?_
    | refine Chain.cons (step_binary _ _ _ _ rfl (lt_of_ble rfl) (lt_of_ble rfl)) ?_
    | refine Chain.cons (step_reshape _ _ _ _ rfl (lt_of_ble rfl)) ?_)
  exact (rfl : (_ : Nat) = _)

/-- The reference runs, and at the end every buffer holds what the line leaves in it. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc),
        r.2.mem ((d.tc : Thread nD τ).loc b) = after (line (F := F) d).1 (launchContents m d) (Proc.devRef .tc b) :=
  run_seq (by decide) (by decide) _ _ (fun d => (line d).1) (fun d => (line d).2)
    (fun d => List.forall_iff_forall_mem.mpr fun op h => ((chain d).bufs op h).1) m ρ (fun d op h => ((chain d).bufs op h).2)

/-- The final contents of the reference's buffers on device `d`. -/
def fin (m : (ℓ : Loc nD τ sig) → Buf (Elt F) ℓ) (d : Dev nD) : Valuation τ sig (Elt F) :=
  after (line (F := F) d).1 (launchContents m d)

/-- Every operation's equation holds of the final contents. -/
theorem fin_good (m : (ℓ : Loc nD τ sig) → Buf (Elt F) ℓ) (d : Dev nD) : All (Good (fin m d)) (line (F := F) d).1 :=
  (chain d).good _

/-- The argument is as it was at launch. -/
theorem fin_arg (m : (ℓ : Loc nD τ sig) → Buf (Elt F) ℓ) (d : Dev nD) :
    fin m d (Proc.devRef .tc main_arg0) = m ((d.tc : Thread nD τ).loc main_arg0) :=
  (chain d).keeps _ _ (lt_of_ble rfl)

end Cert.ReferenceIdeal.Line

end
-- ==== Proof.Floats.lean ====
/- What the float literals of the programs denote, the number a generator's word stands for, and the noise made of it. -/
module

public import Idealize.ShloMosaic.Lib.Pointwise

@[expose] public section

noncomputable section

namespace Cert.Floats

open Idealize.ShloMosaic

/-- The number of a word: its upper 23 bits are the fraction of a float in [1, 2), less one. -/
def flt (w : BitVec 32) : EReal := Ideal.ofBits .f32 ((w >>> (9#32)) ||| 1065353216#32) - 1

/-- The counter of a place: its number in row-major order. -/
def place (b l c : Nat) : BitVec 32 := BitVec.ofNat 32 (b * 81920 + l * 20 + c)

/-- The generator's word for a draw. -/
def word (p : BitVec 32 × BitVec 32) : BitVec 32 := p.1 ^^^ p.2

theorem fraction_bits (w : BitVec 32) :
    ((w >>> (9#32)) ||| 1065353216#32).extractLsb' 31 1 = 0#1 ∧ ((w >>> (9#32)) ||| 1065353216#32).extractLsb' 23 8 = 127#8 := by
  constructor <;>
  · refine BitVec.eq_of_getLsbD_eq fun i hi => ?_
    interval_cases i <;>
      simp [BitVec.getLsbD_extractLsb', BitVec.ushiftRight_eq', BitVec.getLsbD_ushiftRight]

/-- A positive normal number by its exponent and its fraction. -/
theorem normal {b : BitVec 32} {ex fr : Nat} (h1 : b.extractLsb' 31 1 = 0#1) (h2 : (b.extractLsb' 23 8).toNat = ex)
    (h3 : (b.extractLsb' 0 23).toNat = fr) (h4 : ex ≠ 255) (h5 : ex ≠ 0) :
    Ideal.ofBits .f32 b = (((2 ^ 23 + fr : Nat) * (2 : ℝ) ^ ((ex : Int) - 150) : ℝ) : EReal) := by
  unfold Ideal.ofBits Ideal.ieee
  simp only [h1, h2, h3, if_neg h4, if_neg h5]
  rw [if_neg (by simpa using h4)]
  norm_num
  rw [show (ex : Int) - 127 - 23 = ex - 150 by ring]

/-- The number of a word is at least zero and less than one. -/
theorem flt_eq (w : BitVec 32) : ∃ r : ℝ, flt w = (r : EReal) ∧ 0 ≤ r ∧ r < 1 := by
  obtain ⟨h1, h2⟩ := fraction_bits w
  have e := normal h1 (ex := 127) (by rw [h2]; rfl) rfl (by decide) (by decide)
  generalize (((w >>> (9#32)) ||| 1065353216#32).extractLsb' 0 23) = f at e
  have hr : (f.toNat : ℝ) < 8388608 := by exact_mod_cast f.isLt
  have h0 : (0 : ℝ) ≤ f.toNat := Nat.cast_nonneg _
  refine ⟨(2 ^ 23 + f.toNat : Nat) * (2 : ℝ) ^ (((127 : Nat) : Int) - 150) - 1, ?_, ?_, ?_⟩
  · rw [flt, e]; rfl
  · push_cast; norm_num; linarith
  · push_cast; norm_num; linarith

theorem negInf_eq : Ideal.ofBits .f32 4286578688#32 = ⊥ := by
  unfold Ideal.ofBits Ideal.ieee
  simp

theorem posInf_eq : Ideal.ofBits .f32 2139095040#32 = ⊤ := by
  unfold Ideal.ofBits Ideal.ieee
  simp

/-- The least normal number is positive and less than one. -/
theorem tiny_eq : ∃ r : ℝ, Ideal.ofBits .f32 8388608#32 = (r : EReal) ∧ 0 < r ∧ r < 1 :=
  ⟨_, normal (ex := 1) (fr := 0) (by decide) (by decide) (by decide) (by decide) (by decide), by positivity, by norm_num⟩

/-- So is the noise's lower bound. -/
theorem low_eq : ∃ r : ℝ, Ideal.ofBits .f32 786163455#32 = (r : EReal) ∧ 0 < r ∧ r < 1 :=
  ⟨_, normal (ex := 93) (fr := 6022911) (by decide) (by decide) (by decide) (by decide) (by decide), by positivity, by norm_num⟩

/-- The temperature is positive. -/
theorem tau_eq : ∃ r : ℝ, Ideal.ofBits .f32 1036831949#32 = (r : EReal) ∧ 0 < r :=
  ⟨_, normal (ex := 123) (fr := 5033165) (by decide) (by decide) (by decide) (by decide) (by decide), by positivity⟩

/-- The noise made of a number strictly between zero and one is a real number. -/
theorem noise_eq {u : ℝ} (h0 : 0 < u) (h1 : u < 1) : ∃ r : ℝ, -Ideal.log (-Ideal.log (u : EReal)) = (r : EReal) := by
  have e1 : Ideal.log (u : EReal) = (Real.log u : EReal) := by
    show (if u ≤ 0 then ⊥ else _) = _
    rw [if_neg (not_le.mpr h0)]
  have h : 0 < -Real.log u := neg_pos.mpr (Real.log_neg h0 h1)
  refine ⟨-Real.log (-Real.log u), ?_⟩
  rw [e1, ← EReal.coe_neg]
  show -(if -Real.log u ≤ 0 then ⊥ else _) = _
  rw [if_neg (not_le.mpr h)]; rfl

end Cert.Floats

end
-- ==== Proof.Finite.lean ====
/- The precondition, unpacked: every logit is a real number. -/
module

public import proofs.«01_k».proof.Pre_finite
public import proofs.«01_k».proof.Proof.Floats
public import Idealize.ShloMosaic.Lib.ReduceAll
public import Idealize.ShloMosaic.Lib.Pointwise

@[expose] public section

set_option maxRecDepth 16384

noncomputable section

namespace Cert.Pre_finite

open Cert.Floats Idealize.ShloMosaic

/-- The shape facts the precondition's operations ask for. -/
theorem facts : Facts := ⟨by decide, by decide, by decide⟩

/-- An extended real whose absolute value is below infinity is a real number. -/
theorem real_of_lt {a : EReal} (h : max a (-a) < ⊤) : ∃ r : ℝ, a = (r : EReal) := by
  induction a with
  | bot => exact absurd h (by simp)
  | coe r => exact ⟨r, rfl⟩
  | top => exact absurd h (by simp)

/-- Where the precondition holds, every logit is a real number. -/
theorem real_of_fn [Facts] {x : FVec Ideal S256x20x4096 .f32} (h : fn (F := Ideal) x = fun _ => 1#1) (i : S256x20x4096.Idx) :
    ∃ r : ℝ, (x i : EReal) = (r : EReal) := by
  have : Subsingleton S_.Idx := ⟨fun a b => funext fun k => k.elim0⟩
  unfold fn at h
  have e : cmpf (F := Ideal) .olt (Host.absf x) (broadcastInDim S256x20x4096 ![] Facts.bcast_S_S256x20x4096 (constant S_ .f32 0x7F800000#32)) i = 1#1 :=
    Host.reduce_andi_all _ _ _ _ ix0 (congrFun h ix0) i
  refine real_of_lt ?_
  rw [← posInf_eq]
  exact (Ideal.cmp_olt_eq_one _ _).mp e

end Cert.Pre_finite

end
-- ==== Proof.Threefry.lean ====
/- The twenty rounds of the counter-based generator on one pair of words, and the reference's lists of operations read as them. -/
module

public import proofs.«01_k».proof.Proof.Ssa

@[expose] public section

noncomputable section

namespace Cert.Threefry

open Idealize.ShloMosaic Idealize.ShloMosaic.StableHlo Idealize.SL.Sem Cert.Ssa

/-- One round: add, rotate the second word to the left by `r` (`s` is the complementary amount), exclusive or. -/
def rnd (r s : BitVec 32) (p : BitVec 32 × BitVec 32) : BitVec 32 × BitVec 32 :=
  (p.1 + p.2, (p.1 + p.2) ^^^ ((p.2 <<< r) ||| (p.2 >>> s)))

/-- One injection of two key words and the injection's number. -/
def inj (x y n : BitVec 32) (p : BitVec 32 × BitVec 32) : BitVec 32 × BitVec 32 := (p.1 + x, p.2 + y + n)

/-- The four rounds of the first kind. -/
def even (p : BitVec 32 × BitVec 32) : BitVec 32 × BitVec 32 := rnd 6#32 26#32 (rnd 26#32 6#32 (rnd 15#32 17#32 (rnd 13#32 19#32 p)))

/-- The four rounds of the second kind. -/
def odd (p : BitVec 32 × BitVec 32) : BitVec 32 × BitVec 32 := rnd 24#32 8#32 (rnd 16#32 16#32 (rnd 29#32 3#32 (rnd 17#32 15#32 p)))

/-- The twenty rounds at the key words `a`, `b`, `c`, from a pair that already has the first two key words added. -/
def core (a b c : BitVec 32) (p : BitVec 32 × BitVec 32) : BitVec 32 × BitVec 32 :=
  inj c a 5#32 (even (inj b c 4#32 (odd (inj a b 3#32 (even (inj c a 2#32 (odd (inj b c 1#32 (even p)))))))))

/-- The generator at key `(a, b)` and counter `(x, y)`. -/
def tf (a b x y : BitVec 32) : BitVec 32 × BitVec 32 := core a b (a ^^^ b ^^^ 466688986#32) (x + a, y + b)

variable {τ : Topo} {sig : RefSig} {F : FTy → Type} [FloatOps F] {V : Valuation τ sig (Elt F)} {S K : Shape}

/-- The nine operations of a round, read as `rnd`. -/
theorem round_of {A B A' G B' D E Cb Cb' : TRef sig ⟨S, .i32⟩} {C C' : TRef sig ⟨K, .i32⟩} {r s : BitVec 32}
    {d d' : Fin K.rank → Fin S.rank} {h : K.BroadcastsInDim S d} {h' : K.BroadcastsInDim S d'} {rest : List (HloOp τ sig (Elt F))}
    (H : All (Good V) (TRef.binary A B A' addi :: TRef.nullary C (constantI K 32 r) :: TRef.unary C Cb (broadcastInDim S d h)
      :: TRef.binary B Cb D Host.shli :: TRef.nullary C' (constantI K 32 s) :: TRef.unary C' Cb' (broadcastInDim S d' h')
      :: TRef.binary B Cb' E Host.shrui :: TRef.binary D E G ori :: TRef.binary A' G B' xori :: rest))
    {p : S.Idx → BitVec 32 × BitVec 32} (hp : ∀ i, (val V A i, val V B i) = p i) (hr : r.toNat < 32) (hs : s.toNat < 32) :
    (∀ i, (val V A' i, val V B' i) = rnd r s (p i)) ∧ All (Good V) rest := by
  obtain ⟨h1, h2, h3, h4, h5, h6, h7, h8, h9, H⟩ := H
  refine ⟨fun i => ?_, H⟩
  rw [← hp]
  have e1 := val_binary h1
  rw [val_binary h9, val_binary h8, val_binary h7, val_unary h6, val_nullary h5, val_binary h4, val_unary h3, val_nullary h2, e1]
  simp only [rnd]
  refine Prod.ext rfl ?_
  show IntOp.xori _ (IntOp.ori (IntOp.shli .host _ r) (IntOp.shrui .host _ s)) = _
  rw [IntOp.shli, IntOp.shrui, if_pos hr, if_pos hs]
  rfl

/-- The seven operations of an injection, read as `inj`. -/
theorem inj_of {A B A' B' t bk bk' bn : TRef sig ⟨S, .i32⟩} {k k' n : TRef sig ⟨K, .i32⟩} {w : BitVec 32} {x y : BitVec 32}
    {d d' d'' : Fin K.rank → Fin S.rank} {h : K.BroadcastsInDim S d} {h' : K.BroadcastsInDim S d'} {h'' : K.BroadcastsInDim S d''}
    {rest : List (HloOp τ sig (Elt F))}
    (H : All (Good V) (TRef.unary k bk (broadcastInDim S d h) :: TRef.binary A bk A' addi :: TRef.unary k' bk' (broadcastInDim S d' h')
      :: TRef.binary B bk' t addi :: TRef.nullary n (constantI K 32 w) :: TRef.unary n bn (broadcastInDim S d'' h'')
      :: TRef.binary t bn B' addi :: rest))
    {p : S.Idx → BitVec 32 × BitVec 32} (hp : ∀ i, (val V A i, val V B i) = p i)
    (hx : val V k = fun _ => x) (hy : val V k' = fun _ => y) :
    (∀ i, (val V A' i, val V B' i) = inj x y w (p i)) ∧ All (Good V) rest := by
  obtain ⟨h1, h2, h3, h4, h5, h6, h7, H⟩ := H
  refine ⟨fun i => ?_, H⟩
  rw [← hp]
  rw [val_binary h7, val_unary h6, val_nullary h5, val_binary h4, val_unary h3, val_binary h2, val_unary h1, hx, hy]
  rfl

/-- The seven operations at the head: the third key word, and the first two added to the counter. -/
theorem head_of {A B A' B' ba bb : TRef sig ⟨S, .i32⟩} {a b t c k : TRef sig ⟨K, .i32⟩} {x y : BitVec 32} {w : BitVec 32}
    {d d' : Fin K.rank → Fin S.rank} {h : K.BroadcastsInDim S d} {h' : K.BroadcastsInDim S d'}
    {rest : List (HloOp τ sig (Elt F))}
    (H : All (Good V) (TRef.binary a b t xori :: TRef.nullary c (constantI K 32 w) :: TRef.binary t c k xori
      :: TRef.unary a ba (broadcastInDim S d h) :: TRef.binary A ba A' addi
      :: TRef.unary b bb (broadcastInDim S d' h') :: TRef.binary B bb B' addi :: rest))
    (hx : val V a = fun _ => x) (hy : val V b = fun _ => y) :
    (val V k = fun _ => x ^^^ y ^^^ w) ∧ (∀ i, (val V A' i, val V B' i) = (val V A i + x, val V B i + y)) ∧ All (Good V) rest := by
  obtain ⟨h1, h2, h3, h4, h5, h6, h7, H⟩ := H
  refine ⟨?_, fun i => ?_, H⟩
  · rw [val_binary h3, val_binary h1, val_nullary h2, hx, hy]; rfl
  · rw [val_binary h7, val_binary h5, val_unary h4, val_unary h6, hx, hy]; rfl

end Cert.Threefry

end
-- ==== Proof.Words.lean ====
/- The words the reference's two calls of the generator leave: each is the generator at the key and the counter it is called on. -/
module

public import proofs.«01_k».proof.Proof.Line
public import proofs.«01_k».proof.Proof.Threefry

@[expose] public section

set_option maxRecDepth 100000

noncomputable section

namespace Cert.ReferenceIdeal.Line

open Cert.ReferenceIdeal Cert.ReferenceIdeal.Gen Cert.Ssa Cert.Threefry Idealize.ShloMosaic Idealize.ShloMosaic.StableHlo Idealize.SL.Sem

variable {F : FTy → Type} [FloatOps F] {V : Valuation τ sig (Elt F)}

/-- The call on the two counters of the split. -/
theorem tfKeys_eq {a0 a1 : TRef sig ⟨S_, .i32⟩} {a2 a3 : TRef sig ⟨S2, .i32⟩} {φ : fn_threefry2x32.Bufs}
    (h : All (Good V) (tfKeys (F := F) a0 a1 a2 a3 φ).1) {x y : BitVec 32} (hx : val V a0 = fun _ => x) (hy : val V a1 = fun _ => y)
    (i : S2.Idx) : (val V φ.v171 i, val V φ.v175 i) = tf x y (val V a2 i) (val V a3 i) := by
  obtain ⟨hk, e, h⟩ := head_of h hx hy
  iterate 4 (obtain ⟨e', h'⟩ := round_of h e (by decide) (by decide); clear e h; rename' e' => e, h' => h)
  obtain ⟨e, h⟩ := inj_of h e hy hk
  iterate 4 (obtain ⟨e', h'⟩ := round_of h e (by decide) (by decide); clear e h; rename' e' => e, h' => h)
  obtain ⟨e, h⟩ := inj_of h e hk hx
  iterate 4 (obtain ⟨e', h'⟩ := round_of h e (by decide) (by decide); clear e h; rename' e' => e, h' => h)
  obtain ⟨e, h⟩ := inj_of h e hx hy
  iterate 4 (obtain ⟨e', h'⟩ := round_of h e (by decide) (by decide); clear e h; rename' e' => e, h' => h)
  obtain ⟨e, h⟩ := inj_of h e hy hk
  iterate 4 (obtain ⟨e', h'⟩ := round_of h e (by decide) (by decide); clear e h; rename' e' => e, h' => h)
  obtain ⟨e, h⟩ := inj_of h e hk hx
  exact e i

/-- The call on the counters of the draw. -/
theorem tfBits_eq {a0 a1 : TRef sig ⟨S_, .i32⟩} {a2 a3 : TRef sig ⟨S256x4096x20, .i32⟩} {φ : fn_threefry2x32_0.Bufs}
    (h : All (Good V) (tfBits (F := F) a0 a1 a2 a3 φ).1) {x y : BitVec 32} (hx : val V a0 = fun _ => x) (hy : val V a1 = fun _ => y)
    (i : S256x4096x20.Idx) : (val V φ.v171 i, val V φ.v175 i) = tf x y (val V a2 i) (val V a3 i) := by
  obtain ⟨hk, e, h⟩ := head_of h hx hy
  iterate 4 (obtain ⟨e', h'⟩ := round_of h e (by decide) (by decide); clear e h; rename' e' => e, h' => h)
  obtain ⟨e, h⟩ := inj_of h e hy hk
  iterate 4 (obtain ⟨e', h'⟩ := round_of h e (by decide) (by decide); clear e h; rename' e' => e, h' => h)
  obtain ⟨e, h⟩ := inj_of h e hk hx
  iterate 4 (obtain ⟨e', h'⟩ := round_of h e (by decide) (by decide); clear e h; rename' e' => e, h' => h)
  obtain ⟨e, h⟩ := inj_of h e hx hy
  iterate 4 (obtain ⟨e', h'⟩ := round_of h e (by decide) (by decide); clear e h; rename' e' => e, h' => h)
  obtain ⟨e, h⟩ := inj_of h e hy hk
  iterate 4 (obtain ⟨e', h'⟩ := round_of h e (by decide) (by decide); clear e h; rename' e' => e, h' => h)
  obtain ⟨e, h⟩ := inj_of h e hk hx
  exact e i

end Cert.ReferenceIdeal.Line

end
-- ==== Proof.Draw.lean ====
/- What the reference's uniform draws hold: a number from the generator's word, scaled to the interval asked for. -/
module

public import proofs.«01_k».proof.Proof.Words
public import proofs.«01_k».proof.Proof.Floats
public import Idealize.ShloMosaic.Lib.Pointwise
public import Idealize.ShloMosaic.Lib.ValueIdx

@[expose] public section

set_option maxRecDepth 100000

noncomputable section

namespace Cert.ReferenceIdeal.Line

open Cert.ReferenceIdeal Cert.ReferenceIdeal.Gen Cert.Ssa Cert.Threefry Cert.Floats Idealize.ShloMosaic Idealize.ShloMosaic.StableHlo Idealize.SL.Sem

variable {V : Valuation τ sig (Elt Ideal)}

theorem place_wide (b l c : Nat) :
    IntOp.addi (IntOp.addi (IntOp.muli (81920#64) (BitVec.ofNat 64 b)) (IntOp.muli (20#64) (BitVec.ofNat 64 l)))
      (IntOp.muli (1#64) (BitVec.ofNat 64 c)) = BitVec.ofNat 64 (b * 81920 + l * 20 + c) := by
  rw [Nat.mul_comm b, Nat.mul_comm l, BitVec.ofNat_add, BitVec.ofNat_add, BitVec.ofNat_mul, BitVec.ofNat_mul]
  show _ + _ + 1#64 * _ = _
  rw [BitVec.one_mul]; rfl

theorem place_low (b l c : Nat) : BitVec.setWidth 32 (BitVec.ofNat 64 (b * 81920 + l * 20 + c)) = place b l c :=
  BitVec.eq_of_toNat_eq (by simp only [place, BitVec.toNat_setWidth, BitVec.toNat_ofNat]; omega)

theorem place_high {b l c : Nat} (hb : b < 256) (hl : l < 4096) (hc : c < 20) :
    BitVec.setWidth 32 (IntOp.shrui .host (BitVec.ofNat 64 (b * 81920 + l * 20 + c)) 32#64) = 0#32 := by
  rw [IntOp.shrui, if_pos (by decide)]
  refine BitVec.eq_of_toNat_eq ?_
  have : (BitVec.ofNat 64 (b * 81920 + l * 20 + c) >>> (32#64)).toNat = 0 := by
    rw [BitVec.ushiftRight_eq', BitVec.toNat_ushiftRight, Nat.shiftRight_eq_div_pow, BitVec.toNat_ofNat]
    apply Nat.div_eq_of_lt
    exact lt_of_le_of_lt (Nat.mod_le _ _) (show _ < 4294967296 by omega)
  rw [BitVec.toNat_setWidth, this]; rfl

/-- What the uniform draw of the sample holds. -/
theorem uniform_eq {a : TRef sig ⟨S2, .i32⟩} {b c : TRef sig ⟨S_, .f32⟩} {φ : fn_uniform.Bufs}
    (h : All (Good V) (uniform (F := Ideal) a b c φ).1) (i : S256x4096x20.Idx) :
    val V φ.v38 i = max (val V b ix0) (flt (word (tf (val V a (ix1 0)) (val V a (ix1 1)) 0#32 (place (i 0).val (i 1).val (i 2).val)))
      * (val V c ix0 - val V b ix0) + val V b ix0) := by
  obtain ⟨h0, h1, h2, h3, h4, h5, h6, h7, h8, h9, h10, hc, h11, h12, hc0, h13, h14, hc1, h15, h16, h17, h18, hc2, h19, h20, h21, h22, h⟩ := h
  obtain ⟨ht, h⟩ := All.append (xs := (tfBits (F := Ideal) φ.v5 φ.v7 φ.v22 φ.v21 φ.call0).1) h
  obtain ⟨h24, hc3, h25, h26, hc4, h27, h28, h29, hcst, h30, h31, h32, h33, h34, h35, h36, h37, h38, -⟩ := h
  have k0 : val V φ.v5 = fun _ => val V a (ix1 0) := by
    rw [val_reshape h5, val_unary h4]; funext j; pointwise
  have k1 : val V φ.v7 = fun _ => val V a (ix1 1) := by
    rw [val_reshape h7, val_unary h6]; funext j; pointwise
  have t := tfBits_eq ht k0 k1 i
  have x0 : val V φ.v22 i = 0#32 := by
    rw [val_unary h22, val_binary h20, val_unary h19, val_nullary hc2, val_binary h18, val_binary h17, val_binary h12, val_unary h11,
      val_nullary hc, val_nullary h8, val_binary h14, val_unary h13, val_nullary hc0, val_nullary h9, val_binary h16, val_unary h15,
      val_nullary hc1, val_nullary h10]
    pointwise
    rw [place_wide, place_high (i 0).isLt (i 1).isLt (i 2).isLt]
  have x1 : val V φ.v21 i = place (i 0).val (i 1).val (i 2).val := by
    rw [val_unary h21, val_binary h18, val_binary h17, val_binary h12, val_unary h11,
      val_nullary hc, val_nullary h8, val_binary h14, val_unary h13, val_nullary hc0, val_nullary h9, val_binary h16, val_unary h15,
      val_nullary hc1, val_nullary h10]
    pointwise
    rw [place_wide, place_low]
  rw [x0, x1] at t
  rw [val_binary h38, val_binary h36, val_unary h37, val_unary h35, val_binary h34, val_unary h33, val_binary h32, val_binary h31,
    val_unary h30, val_nullary hcst, val_unary h29, val_binary h28, val_unary h27, val_nullary hc4, val_binary h26, val_unary h25, val_nullary hc3,
    val_binary h24, val_unary h3, val_unary h2, val_unary h1, val_unary h0]
  pointwise
  rw [← t]
  rfl

/-- What the uniform draw of the noise holds: the same of some word. -/
theorem uniformSoft_eq {a : TRef sig ⟨S2, .i32⟩} {b c : TRef sig ⟨S_, .f32⟩} {φ : fn_uniform_1.Bufs}
    (h : All (Good V) (uniformSoft (F := Ideal) a b c φ).1) (i : S256x20x4096.Idx) :
    ∃ w, val V φ.v38 i = max (val V b ix0) (flt w * (val V c ix0 - val V b ix0) + val V b ix0) := by
  obtain ⟨h0, h1, h2, h3, -, -, -, -, -, -, -, -, -, -, -, -, -, -, -, -, -, -, -, -, -, -, -, h⟩ := h
  obtain ⟨-, h⟩ := All.append (xs := (tfSoft (F := Ideal) φ.v5 φ.v7 φ.v22 φ.v21 φ.call0).1) h
  obtain ⟨h24, hc3, h25, h26, hc4, h27, h28, h29, hcst, h30, h31, h32, h33, h34, h35, h36, h37, h38, -⟩ := h
  refine ⟨val V φ.v24 i, ?_⟩
  rw [val_binary h38, val_binary h36, val_unary h37, val_unary h35, val_binary h34, val_unary h33, val_binary h32, val_binary h31,
    val_unary h30, val_nullary hcst, val_unary h29, val_binary h28, val_unary h27, val_nullary hc4, val_binary h26, val_unary h25, val_nullary hc3,
    val_unary h3, val_unary h2, val_unary h1, val_unary h0]
  pointwise
  rfl

end Cert.ReferenceIdeal.Line

end
-- ==== Proof.First.lean ====
/- The first place at which a finite family of extended reals is greatest, and the two ways the programs find it. -/
module

public import Idealize.ShloMosaic.Lib.Pointwise

@[expose] public section

noncomputable section

namespace Cert.First

open Idealize.ShloMosaic

/-- `f` is the first index at which `s` takes its greatest value. -/
def IsFirst {n : Nat} (s : Fin n → EReal) (f : Fin n) : Prop := (∀ c, s c ≤ s f) ∧ ∀ c, c < f → s c < s f

/-- A family over a nonempty index set has such an index. -/
theorem exists_isFirst {n : Nat} [NeZero n] (s : Fin n → EReal) : ∃ f, IsFirst s f := by
  obtain ⟨m, hm⟩ := Finite.exists_max s
  obtain ⟨f, hf, hmin⟩ := (Finset.univ.filter fun c => s c = s m).exists_min_image id ⟨m, by simp⟩
  have e : s f = s m := (Finset.mem_filter.mp hf).2
  refine ⟨f, fun c => e ▸ hm c, fun c hc => lt_of_le_of_ne (e ▸ hm c) fun h => ?_⟩
  exact absurd (hmin c (Finset.mem_filter.mpr ⟨Finset.mem_univ _, h.trans e⟩)) (not_le.mpr hc)

/-! ## The host's way: one pass over pairs of a value and an index -/

/-- The pair `p` does not come before `r`: its value is smaller, or equal with an index no smaller. -/
def Under (p r : EReal × BitVec 32) : Prop := p.1 < r.1 ∨ (p.1 = r.1 ∧ r.2.toInt ≤ p.2.toInt)

theorem Under.refl (p : EReal × BitVec 32) : Under p p := .inr ⟨rfl, le_refl _⟩

theorem Under.trans {p q r : EReal × BitVec 32} (h : Under p q) (h' : Under q r) : Under p r := by
  rcases h with h | ⟨h, i⟩ <;> rcases h' with h' | ⟨h', i'⟩
  · exact .inl (h.trans h')
  · exact .inl (h' ▸ h)
  · exact .inl (h ▸ h')
  · exact .inr ⟨h.trans h', i'.trans i⟩

/-- An operation that gives one of its two arguments, above both of them. -/
def Picks (f : EReal × BitVec 32 → EReal × BitVec 32 → EReal × BitVec 32) : Prop :=
  ∀ a b, (f a b = a ∨ f a b = b) ∧ Under a (f a b) ∧ Under b (f a b)

/-- Folded over a list it gives one of the pairs, above all of them. -/
theorem Picks.foldl {f : EReal × BitVec 32 → EReal × BitVec 32 → EReal × BitVec 32} (hf : Picks f) :
    ∀ (l : List (EReal × BitVec 32)) (a : EReal × BitVec 32),
      (l.foldl f a = a ∨ l.foldl f a ∈ l) ∧ Under a (l.foldl f a) ∧ ∀ p ∈ l, Under p (l.foldl f a)
  | [], a => ⟨.inl rfl, .refl a, fun _ h => nomatch h⟩
  | b :: l, a => by
    obtain ⟨h1, h2, h3⟩ := hf.foldl l (f a b)
    obtain ⟨g1, g2, g3⟩ := hf a b
    rw [List.foldl_cons]
    refine ⟨?_, g2.trans h2, fun p hp => ?_⟩
    · rcases h1 with h | h
      · rcases g1 with g | g
        · exact .inl (h.trans g)
        · exact .inr (by rw [h, g]; exact List.mem_cons_self)
      · exact .inr (List.mem_cons_of_mem _ h)
    · rcases List.mem_cons.mp hp with rfl | hp
      · exact g3.trans h2
      · exact h3 p hp

theorem toInt_small {n : Nat} (h : n < 20) : (BitVec.ofNat 32 n).toInt = n := by
  rw [BitVec.toInt_eq_toNat_cond, BitVec.toNat_ofNat]
  have e : n % 2 ^ 32 = n := Nat.mod_eq_of_lt (show n < 4294967296 by omega)
  rw [e, if_pos (show 2 * n < 4294967296 by omega)]

/-- Small indices are the same word where they are the same number. -/
theorem cmpi_small {m n : Nat} (hm : m < 20) (hn : n < 20) :
    IntOp.cmpi .eq (BitVec.ofNat 32 m) (BitVec.ofNat 32 n) = BitVec.ofBool (decide (m = n)) := by
  unfold IntOp.cmpi
  refine congrArg _ ?_
  show (BitVec.ofNat 32 m == BitVec.ofNat 32 n) = _
  rw [Bool.eq_iff_iff, beq_iff_eq, decide_eq_true_iff]
  refine ⟨fun h => ?_, fun h => by rw [h]⟩
  have := congrArg BitVec.toInt h
  rw [toInt_small hm, toInt_small hn] at this
  exact_mod_cast this

/-- Over the values of a family and their indices, from minus infinity at index zero, the index it gives is the first. -/
theorem Picks.snd_eq {f : EReal × BitVec 32 → EReal × BitVec 32 → EReal × BitVec 32} (hf : Picks f) {s : Fin 20 → EReal} {g : Fin 20}
    (hg : IsFirst s g) {l : List (EReal × BitVec 32)} (hl : ∀ p, p ∈ l ↔ ∃ c : Fin 20, (s c, BitVec.ofNat 32 c.val) = p) :
    (l.foldl f (⊥, 0#32)).2 = BitVec.ofNat 32 g.val := by
  obtain ⟨h1, h2, h3⟩ := hf.foldl l (⊥, 0#32)
  obtain ⟨c, hc⟩ : ∃ c : Fin 20, BitVec.ofNat 32 c.val = (l.foldl f (⊥, 0#32)).2 ∧ (l.foldl f (⊥, 0#32)).1 ≤ s c := by
    rcases h1 with h | h
    · exact ⟨0, by rw [h]; exact ⟨rfl, bot_le⟩⟩
    · obtain ⟨c, hc⟩ := (hl _).mp h
      exact ⟨c, by rw [← hc], by rw [← hc]⟩
  have hu := h3 _ ((hl _).mpr ⟨g, rfl⟩)
  rw [← hc.1]
  suffices c = g by rw [this]
  rcases hu with hu | ⟨hu, hi⟩
  · exact absurd (lt_of_lt_of_le hu hc.2) (not_lt.mpr (hg.1 c))
  · rw [← hc.1, toInt_small c.isLt, toInt_small g.isLt] at hi
    rcases lt_or_eq_of_le (show c ≤ g by exact_mod_cast hi) with h | h
    · exact absurd (lt_of_lt_of_le (hg.2 c h) (hu.le.trans hc.2)) (lt_irrefl _)
    · exact h

/-! ## The kernel's way: the greatest value, then the least index that attains it -/

theorem fold_max_eq {s : Fin 20 → EReal} {g : Fin 20} (hg : IsFirst s g) : Finset.univ.fold max ⊥ s = s g :=
  le_antisymm ((Finset.fold_max_le _).mpr ⟨bot_le, fun c _ => hg.1 c⟩) ((Finset.le_fold_max _).mpr (.inr ⟨g, Finset.mem_univ _, le_rfl⟩))

theorem toInt_minsi (x y z : BitVec 32) : x.toInt ≤ (IntOp.minsi y z).toInt ↔ x.toInt ≤ y.toInt ∧ x.toInt ≤ z.toInt := by
  unfold IntOp.minsi
  by_cases h : y.slt z
  · rw [if_pos h]; rw [BitVec.slt_iff_toInt_lt] at h; omega
  · rw [if_neg h]; rw [BitVec.slt_iff_toInt_lt] at h; omega

/-- The least of the indices at which the family is greatest, the others standing at 20. -/
theorem fold_min_eq [Std.Commutative (IntOp.minsi (w := 32))] [Std.Associative (IntOp.minsi (w := 32))]
    {s : Fin 20 → EReal} {g : Fin 20} (hg : IsFirst s g) {v : Fin 20 → BitVec 32}
    (hv : ∀ c, v c = if s c = s g then BitVec.ofNat 32 c.val else 20#32) :
    Finset.univ.fold IntOp.minsi 2147483647#32 v = BitVec.ofNat 32 g.val := by
  have key := fun x => Finset.fold_op_rel_iff_and (op := IntOp.minsi (w := 32)) (r := fun x y => x.toInt ≤ y.toInt)
    (f := v) (b := 2147483647#32) (s := Finset.univ) (fun {x y z} => toInt_minsi x y z) (c := x)
  refine BitVec.eq_of_toInt_eq (le_antisymm ?_ ((key _).mpr ⟨?_, fun c _ => ?_⟩))
  · have := ((key _).mp le_rfl).2 g (Finset.mem_univ _)
    rwa [hv, if_pos rfl] at this
  · rw [toInt_small g.isLt]
    have := g.isLt
    show (g.val : Int) ≤ 2147483647
    omega
  · rw [hv, toInt_small g.isLt]
    split
    · rename_i e
      rw [toInt_small c.isLt]
      by_contra h
      exact absurd e (hg.2 c (by rw [Fin.lt_def]; omega)).ne
    · have := g.isLt
      show (g.val : Int) ≤ 20
      omega

end Cert.First

end
-- ==== Proof.Sample.lean ====
/- What the reference's arg-max and one-hot hold. -/
module

public import proofs.«01_k».proof.Proof.Line
public import proofs.«01_k».proof.Proof.First
public import proofs.«01_k».proof.Proof.Floats

@[expose] public section

set_option maxRecDepth 100000

noncomputable section

namespace Cert.ReferenceIdeal.Line

open Cert.ReferenceIdeal Cert.ReferenceIdeal.Gen Cert.Ssa Cert.First Cert Idealize.ShloMosaic Idealize.ShloMosaic.StableHlo Idealize.SL.Sem

variable {V : Valuation τ sig (Elt Ideal)}

/-- The arg-max's body gives one of its two pairs: the greater value, of equal values the smaller index. -/
theorem picks : Picks (reducer_argmax_f32_i32 (F := Ideal)) := by
  rintro ⟨x, i⟩ ⟨y, j⟩
  have e : reducer_argmax_f32_i32 (F := Ideal) (x, i) (y, j)
      = (if y < x then x else y, if y < x ∨ (x = y ∧ i.toInt < j.toInt) then i else j) := by
    unfold reducer_argmax_f32_i32
    pointwise
    have hs : IntOp.cmpi CmpIPredicate.slt i j = BitVec.ofBool (decide (i.toInt < j.toInt)) := by
      unfold IntOp.cmpi; exact congrArg _ (by rw [Bool.eq_iff_iff, decide_eq_true_iff]; exact BitVec.slt_iff_toInt_lt)
    rw [hs]
    by_cases h1 : y < x <;> by_cases h2 : x = y <;> by_cases h3 : i.toInt < j.toInt <;>
      simp [h1, h2, h3, Scalar.select, IntOp.ori, IntOp.andi]
  rw [e]
  rcases lt_trichotomy y x with h | h | h
  · rw [if_pos h, if_pos (.inl h)]
    exact ⟨.inl rfl, .refl _, .inl h⟩
  · subst h
    by_cases h' : i.toInt < j.toInt
    · rw [if_neg (lt_irrefl _), if_pos (.inr ⟨rfl, h'⟩)]
      exact ⟨.inl rfl, .refl _, .inr ⟨rfl, h'.le⟩⟩
    · rw [if_neg (lt_irrefl _), if_neg (by rintro (h | h); exacts [lt_irrefl _ h, h' h.2])]
      exact ⟨.inr rfl, .inr ⟨rfl, not_lt.mp h'⟩, .refl _⟩
  · rw [if_neg h.le.not_gt, if_neg (by rintro (h' | h'); exacts [lt_asymm h h', h.ne h'.1])]
    exact ⟨.inr rfl, .inl h, .refl _⟩

/-- The arg-max along the last axis is the first index of the greatest value. -/
theorem argmax_eq {a : TRef sig ⟨S256x4096x20, .f32⟩} {φ : fn_argmax.Bufs} (h : All (Good V) (argmax (F := Ideal) a φ).1)
    (j : S256x4096.Idx) {g : Fin 20} (hg : IsFirst (fun c => (val V a (ix3 (j 0) (j 1) c) : EReal)) g) :
    val V φ.v1_1 j = BitVec.ofNat 32 g.val := by
  obtain ⟨h0, h1, h2, -, h4, -⟩ := h
  rw [val_quaternary h4, val_nullary h0, val_nullary h1, val_nullary h2, Ideal.argReduce_eq_reduce2]
  show (Host.reduce2 _ _ _ _ _ _ _ j).2 = _
  rw [Host.reduce2_eq_foldl_fiber]
  refine Eq.trans ?_ (picks.snd_eq hg (l := Host.argReduceFiber (val V a) (iotaInDim S256x4096x20 32 2) reducesTo_S256x4096x20_S256x4096_d2 j) ?_)
  · pointwise
    rw [Floats.negInf_eq]
  · intro p
    unfold Host.argReduceFiber
    simp only [List.mem_map, List.mem_filter, List.mem_finRange, true_and, decide_eq_true_eq]
    constructor
    · rintro ⟨n, hn, rfl⟩
      obtain ⟨c, hc⟩ := (Shape.ReducesTo.fiber_r3_a2 _ _ _).mp hn
      exact ⟨c, by rw [← hc]; rfl⟩
    · rintro ⟨c, rfl⟩
      refine ⟨S256x4096x20.rowMajor (ix3 (j 0) (j 1) c), ?_, ?_⟩
      · rw [Equiv.symm_apply_apply]
        exact (Shape.ReducesTo.fiber_r3_a2 _ _ _).mpr ⟨c, rfl⟩
      · rw [Equiv.symm_apply_apply]; rfl

/-- The one-hot row of an index. -/
theorem oneHot_eq {a : TRef sig ⟨S256x4096, .i32⟩} {φ : fn_one_hot.Bufs} (h : All (Good V) (oneHot (F := Ideal) a φ).1)
    (i : S256x4096x20.Idx) {g : Fin 20} (hg : val V a (ix2 (i 0) (i 1)) = BitVec.ofNat 32 g.val) :
    (val V φ.v5 i : EReal) = if (i 2).val = g.val then 1 else 0 := by
  obtain ⟨h0, h1, h2, h3, h4, h5, -⟩ := h
  rw [val_unary h5, val_binary h4, val_unary h3, val_unary h2, val_nullary h1, val_unary h0]
  pointwise
  rw [hg]
  have hc : (i 2).val < 20 := (i 2).isLt
  rw [cmpi_small g.isLt hc]
  simp only [eq_comm (a := g.val)]
  by_cases h : (i 2).val = g.val
  · rw [if_pos h, decide_eq_true h]; show (((1 : Nat) : ℝ) : EReal) = 1; norm_num
  · rw [if_neg h, decide_eq_false h]; show (((0 : Nat) : ℝ) : EReal) = 0; norm_num

end Cert.ReferenceIdeal.Line

end
-- ==== Proof.Keys.lean ====
/- The two keys the reference splits the seed into; of them the sample's draw takes the first. -/
module

public import proofs.«01_k».proof.Proof.Words
public import Idealize.ShloMosaic.Lib.Pointwise

@[expose] public section

set_option maxRecDepth 100000

noncomputable section

namespace Cert.ReferenceIdeal.Line

open Cert.ReferenceIdeal Cert.ReferenceIdeal.Gen Cert.Ssa Cert.Threefry Idealize.ShloMosaic Idealize.ShloMosaic.StableHlo Idealize.SL.Sem

variable {V : Valuation τ sig (Elt Ideal)}

/-- The first row of the split is the generator at counter (0, 0). -/
theorem split_eq {a : TRef sig ⟨S2, .i32⟩} {φ : fn_threefry_split.Bufs} (h : All (Good V) (split (F := Ideal) a φ).1) :
    val V φ.v14 (ix2 0 0) = (tf (val V a (ix1 0)) (val V a (ix1 1)) 0#32 0#32).1
      ∧ val V φ.v14 (ix2 0 1) = (tf (val V a (ix1 0)) (val V a (ix1 1)) 0#32 0#32).2 := by
  obtain ⟨h0, h1, h2, h3, h4, hc, h5, h6, hc0, h7, h8, h9, h10, h⟩ := h
  obtain ⟨ht, h⟩ := All.append (xs := (tfKeys (F := Ideal) φ.v1 φ.v3 φ.v10 φ.v9 φ.call0).1) h
  obtain ⟨h12, h13, h14, -⟩ := h
  have k0 : val V φ.v1 = fun _ => val V a (ix1 0) := by
    rw [val_reshape h1, val_unary h0]; funext j; pointwise
  have k1 : val V φ.v3 = fun _ => val V a (ix1 1) := by
    rw [val_reshape h3, val_unary h2]; funext j; pointwise
  have t := tfKeys_eq ht k0 k1 (ix1 0)
  have x0 : val V φ.v10 (ix1 0) = 0#32 := by
    rw [val_unary h10, val_binary h8, val_unary h7, val_nullary hc0, val_binary h6, val_unary h5, val_nullary hc, val_nullary h4]
    decide
  have x1 : val V φ.v9 (ix1 0) = 0#32 := by
    rw [val_unary h9, val_binary h6, val_unary h5, val_nullary hc, val_nullary h4]
    decide
  rw [x0, x1] at t
  rw [val_binary h14, val_unary h13, val_unary h12]
  constructor
  · pointwise
    rw [← t]
  · pointwise
    rw [← t]

end Cert.ReferenceIdeal.Line

end
-- ==== Proof.Spec.lean ====
/- The noise and the scores of the sample, in terms of which both programs are read. -/
module

public import proofs.«01_k».proof.Proof.Threefry
public import proofs.«01_k».proof.Proof.Floats

@[expose] public section

noncomputable section

namespace Cert.Spec

open Idealize.ShloMosaic Cert.Threefry Cert.Floats

/-- The uniform number of a place, its zeros raised to the least normal number. -/
def unif (b l c : Nat) : EReal :=
  max (flt (word (tf 1832780943#32 270669613#32 0#32 (place b l c)))) (Ideal.ofBits .f32 8388608#32)

/-- The scores of the categories at batch `b` and position `l`: the noise and the logits `x`. -/
def score (x : Fin 20 → EReal) (b l : Nat) (c : Fin 20) : EReal := -Ideal.log (-Ideal.log (unif b l c.val)) + x c

end Cert.Spec

end
-- ==== Proof.Reference.lean ====
/- What the reference's result holds: the one-hot row of the first category of greatest score. -/
module

public import proofs.«01_k».proof.Proof.Order
public import proofs.«01_k».proof.Proof.Draw
public import proofs.«01_k».proof.Proof.Sample
public import proofs.«01_k».proof.Proof.Keys
public import proofs.«01_k».proof.Proof.Spec

@[expose] public section

set_option maxRecDepth 100000

noncomputable section

namespace Cert.ReferenceIdeal.Line

open Cert.ReferenceIdeal Cert.ReferenceIdeal.Gen Cert.Ssa Cert.Threefry Cert.Floats Cert.First Cert.Spec Idealize.ShloMosaic Idealize.ShloMosaic.StableHlo Idealize.SL.Sem

variable {V : Valuation τ sig (Elt Ideal)}

/-- The key the noise of the sample is drawn with: the first half of the split of the seed's key. -/
theorem key_eq {d : Dev nD} (h : All (Good V) (line (F := Ideal) d).1) :
    V (Proc.devRef .tc main_v9) (ix1 0) = 1832780943#32 ∧ V (Proc.devRef .tc main_v9) (ix1 1) = 270669613#32 := by
  obtain ⟨hc, hc0, h0, h1, h2, hc1, h3, h4, h5, h6, h⟩ := h
  obtain ⟨hs, h⟩ := All.append (xs := (split (F := Ideal) (.of main_v6) main_call0).1) h
  obtain ⟨h8, h9, -⟩ := h
  have k0 : V (Proc.devRef .tc main_v6) (ix1 0) = 0#32 := by
    rw [good_binary h6, good_unary h2, good_unary h1, good_binary h0, good_nullary hc, good_nullary hc0]
    pointwise
    rfl
  have k1 : V (Proc.devRef .tc main_v6) (ix1 1) = 42#32 := by
    rw [good_binary h6, good_unary h5, good_unary h4, good_binary h3, good_nullary hc, good_nullary hc1]
    pointwise
    rfl
  obtain ⟨s0, s1⟩ := split_eq hs
  clear hs hc hc0 h0 h1 h2 hc1 h3 h4 h5 h6
  constructor
  · rw [good_reshape h9, good_unary h8]
    pointwise
    clear h8 h9 h
    refine s0.trans ?_
    change (tf (V (Proc.devRef .tc main_v6) (ix1 0)) (V (Proc.devRef .tc main_v6) (ix1 1)) 0#32 0#32).1 = _
    rw [k0, k1]
    decide
  · rw [good_reshape h9, good_unary h8]
    pointwise
    clear h8 h9 h
    refine s1.trans ?_
    change (tf (V (Proc.devRef .tc main_v6) (ix1 0)) (V (Proc.devRef .tc main_v6) (ix1 1)) 0#32 0#32).2 = _
    rw [k0, k1]
    decide

/-- The value the sample's arg-max is taken of at a place: the score. -/
theorem score_eq {d : Dev nD} (h : All (Good V) (line (F := Ideal) d).1) (b : Fin 256) (l : Fin 4096) (c : Fin 20) :
    V (Proc.devRef .tc main_v20) (ix3 b l c) = score (fun c => V (Proc.devRef .tc main_arg0) (ix3 b c l)) b.val l.val c := by
  obtain ⟨e0, e1⟩ := key_eq h
  obtain ⟨-, -, -, -, -, -, -, -, -, -, h⟩ := h
  obtain ⟨-, h⟩ := All.append (xs := (split (F := Ideal) (.of main_v6) main_call0).1) h
  obtain ⟨-, -, -, -, h12, hcst, hcst2, h⟩ := h
  obtain ⟨hu, h⟩ := All.append (xs := (uniform (F := Ideal) (.of main_v9) (.of main_cst) (.of main_cst_2) main_call1).1) h
  have u := uniform_eq hu (ix3 b l c)
  clear hu
  obtain ⟨hcst3, h14, h15, h16, h17, h18, h19, h20, -⟩ := h
  rw [good_binary h20, good_unary h19, good_unary h18, good_unary h17, good_unary h16, good_binary h15, good_unary h14, good_nullary hcst3, good_unary h12]
  pointwise
  clear h
  have v13 : V (Proc.devRef .tc main_v13) (ix3 b l c) = max 0 (flt (word (tf 1832780943#32 270669613#32 0#32 (place b.val l.val c.val)))) := by
    have a0 : V (Proc.devRef .tc main_cst) ix0 = (0 : EReal) := by rw [good_nullary hcst]; pointwise
    have b1 : V (Proc.devRef .tc main_cst_2) ix0 = (1 : EReal) := by rw [good_nullary hcst2]; pointwise
    have key : ∀ (p q : BitVec 32) (lo hi : EReal), p = 1832780943#32 → q = 270669613#32 → lo = 0 → hi = 1 →
        max lo (flt (word (tf p q 0#32 (place b.val l.val c.val))) * (hi - lo) + lo)
          = max 0 (flt (word (tf 1832780943#32 270669613#32 0#32 (place b.val l.val c.val)))) := by
      rintro _ _ _ _ rfl rfl rfl rfl
      simp
    exact u.trans (key _ _ _ _ e0 e1 a0 b1)
  rw [v13]
  unfold score unif
  obtain ⟨r, hr, h0, -⟩ := flt_eq (word (tf 1832780943#32 270669613#32 0#32 (place b.val l.val c.val)))
  rw [max_eq_right (a := (0 : EReal)) (by rw [hr]; exact_mod_cast h0)]

/-- The sample's one-hot array: its row at a place is that of the first category of greatest score. -/
theorem sample_eq {d : Dev nD} (h : All (Good V) (line (F := Ideal) d).1) (i : S256x20x4096.Idx) {g : Fin 20}
    (hg : IsFirst (score (fun c => V (Proc.devRef .tc main_arg0) (ix3 (i 0) c (i 2))) (i 0).val (i 2).val) g) :
    V (Proc.devRef .tc main_v23) i = if (i 1).val = g.val then (1 : EReal) else 0 := by
  have hv := score_eq h
  obtain ⟨-, -, -, -, -, -, -, -, -, -, h⟩ := h
  obtain ⟨-, h⟩ := All.append (xs := (split (F := Ideal) (.of main_v6) main_call0).1) h
  obtain ⟨-, -, -, -, -, -, -, h⟩ := h
  obtain ⟨-, h⟩ := All.append (xs := (uniform (F := Ideal) (.of main_v9) (.of main_cst) (.of main_cst_2) main_call1).1) h
  obtain ⟨-, -, -, -, -, -, -, -, h⟩ := h
  obtain ⟨ha, h⟩ := All.append (xs := (argmax (F := Ideal) (.of main_v20) main_call2).1) h
  obtain ⟨ho, h⟩ := All.append (xs := (oneHot (F := Ideal) (.of main_v21) main_call3).1) h
  obtain ⟨h23, -⟩ := h
  have ga : V (Proc.devRef .tc main_v21) (ix2 (i 0) (i 2)) = BitVec.ofNat 32 g.val := by
    refine argmax_eq ha (ix2 (i 0) (i 2)) ?_
    have : (fun c => V (Proc.devRef .tc main_v20) (ix3 (i 0) (i 2) c)) = score (fun c => V (Proc.devRef .tc main_arg0) (ix3 (i 0) c (i 2))) (i 0).val (i 2).val :=
      funext fun c => hv (i 0) (i 2) c
    exact this ▸ hg
  rw [good_unary h23]
  pointwise
  exact oneHot_eq ho (ix3 (i 0) (i 2) (i 1)) ga

end Cert.ReferenceIdeal.Line

end
-- ==== Proof.Soft.lean ====
/- The soft part of the reference's result: the softmax of the logits with noise, a real number at every place. -/
module

public import proofs.«01_k».proof.Proof.Order
public import proofs.«01_k».proof.Proof.Draw

@[expose] public section

set_option maxRecDepth 100000

noncomputable section

namespace Cert.ReferenceIdeal.Line

open Cert.ReferenceIdeal Cert.ReferenceIdeal.Gen Cert.Ssa Cert.Floats Idealize.ShloMosaic Idealize.ShloMosaic.StableHlo Idealize.SL.Sem

variable {V : Valuation τ sig (Elt Ideal)}

/-- The number a bounded draw gives is strictly between zero and one. -/
theorem bounded_eq (w : BitVec 32) : ∃ r : ℝ, max (Ideal.ofBits .f32 786163455#32)
    (flt w * (1 - Ideal.ofBits .f32 786163455#32) + Ideal.ofBits .f32 786163455#32) = (r : EReal) ∧ 0 < r ∧ r < 1 := by
  obtain ⟨f, hf, f0, f1⟩ := flt_eq w
  obtain ⟨lo, hlo, l0, l1⟩ := low_eq
  refine ⟨max lo (f * (1 - lo) + lo), ?_, lt_max_of_lt_left l0, max_lt l1 (by nlinarith)⟩
  rw [hf, hlo, EReal.coe_strictMono.monotone.map_max]
  rfl

/-- The greatest of finitely many reals, from minus infinity, is a real. -/
theorem max_real {n : Nat} (hn : 0 < n) (z : Fin n → ℝ) : ∃ r : ℝ, Finset.univ.fold max (⊥ : EReal) (fun k => (z k : EReal)) = r := by
  have h1 : Finset.univ.fold max (⊥ : EReal) (fun k => (z k : EReal)) ≠ ⊤ :=
    (Finset.fold_max_lt (c := (⊤ : EReal)).mpr ⟨bot_lt_top, fun k _ => EReal.coe_lt_top _⟩).ne
  have h2 : Finset.univ.fold max (⊥ : EReal) (fun k => (z k : EReal)) ≠ ⊥ :=
    ((EReal.bot_lt_coe (z ⟨0, hn⟩)).trans_le ((Finset.le_fold_max _).mpr (.inr ⟨⟨0, hn⟩, Finset.mem_univ _, le_rfl⟩))).ne'
  exact ⟨_, (EReal.coe_toReal h1 h2).symm⟩

/-- The quotient of an exponential of a real by a sum of such is a real. -/
theorem quotient_real {n : Nat} (hn : 0 < n) (y : Fin n → ℝ) (k : Fin n) :
    ∃ r : ℝ, Ideal.div (Ideal.exp (y k : EReal)) (∑ j, Ideal.exp (y j : EReal)) = (r : EReal) := by
  have e : ∑ j, Ideal.exp (y j : EReal) = ((∑ j, Real.exp (y j) : ℝ) : EReal) := by
    exact (map_sum (⟨⟨fun x : ℝ => (x : EReal), rfl⟩, EReal.coe_add⟩ : ℝ →+ EReal) _ _).symm
  have hp : 0 < ∑ j, Real.exp (y j) := Finset.sum_pos (fun j _ => Real.exp_pos _) ⟨⟨0, hn⟩, Finset.mem_univ _⟩
  rw [e]
  refine ⟨Real.exp (y k) * (∑ j, Real.exp (y j))⁻¹, ?_⟩
  unfold Ideal.div
  rw [if_neg (by exact_mod_cast hp.ne')]
  rfl

/-- The quotient of reals by a positive one is a real. -/
theorem div_real {x n t : EReal} (hx : ∃ r : ℝ, x = r) (hn : ∃ r : ℝ, n = r) (ht : ∃ r : ℝ, t = (r : EReal) ∧ 0 < r) :
    ∃ r : ℝ, Ideal.div (x + n) t = (r : EReal) := by
  obtain ⟨x, rfl⟩ := hx
  obtain ⟨n, rfl⟩ := hn
  obtain ⟨t, rfl, t0⟩ := ht
  refine ⟨(x + n) * t⁻¹, ?_⟩
  unfold Ideal.div
  rw [if_neg (by exact_mod_cast t0.ne')]
  rfl

/-- The values of a row, no less than minus infinity, spread over the row. -/
def spread (x : (⟨S256x20, .f32⟩ : BufTy).Contents (Elt Ideal)) : (⟨S256x20x4096, .f32⟩ : BufTy).Contents (Elt Ideal) :=
  broadcastInDim S256x20x4096 ![0, 1, 2] bcast_S256x20x1_S256x20x4096_0_1_2
    (broadcastInDim S256x20x1 ![0, 1] bcast_S256x20_S256x20x1_0_1
      (maximumf (F := Ideal) (φ := .f32) (broadcastInDim S256x20 ![] bcast_S_S256x20 (constant (F := Ideal) S_ .f32 0xFF800000#32)) x))

/-- The greatest value of each row along the last axis. -/
def greatest (x : (⟨S256x20x4096, .f32⟩ : BufTy).Contents (Elt Ideal)) : (⟨S256x20, .f32⟩ : BufTy).Contents (Elt Ideal) :=
  Host.reduce (FloatOps.maximumf (F := Ideal) (φ := .f32)) x (constant (F := Ideal) S_ .f32 0xFF800000#32) reducesTo_S256x20x4096_S256x20_d2 h_S_

/-- The exponentials of a row over their sum. -/
def rowShare (e : (⟨S256x20x4096, .f32⟩ : BufTy).Contents (Elt Ideal)) : (⟨S256x20x4096, .f32⟩ : BufTy).Contents (Elt Ideal) :=
  Host.divf (F := Ideal) (φ := .f32) e (broadcastInDim S256x20x4096 ![0, 1, 2] bcast_S256x20x1_S256x20x4096_0_1_2
    (broadcastInDim S256x20x1 ![0, 1] bcast_S256x20_S256x20x1_0_1
      (Host.reduceAdd e (constant (F := Ideal) S_ .f32 0x00000000#32) reducesTo_S256x20x4096_S256x20_d2 h_S_)))

/-- What the spread values are. -/
theorem spread_eq (x : (⟨S256x20, .f32⟩ : BufTy).Contents (Elt Ideal)) (i : S256x20x4096.Idx) : spread x i = x (ix2 (i 0) (i 1)) := by
  unfold spread
  pointwise
  rw [negInf_eq]
  exact max_eq_right bot_le

/-- The greatest value of a row of reals is a real. -/
theorem greatest_real {x : (⟨S256x20x4096, .f32⟩ : BufTy).Contents (Elt Ideal)} (hx : ∀ i, ∃ r : ℝ, x i = (r : EReal)) (j : S256x20.Idx) :
    ∃ r : ℝ, greatest x j = (r : EReal) := by
  unfold greatest
  pointwise
  rw [negInf_eq]
  choose z hz using hx
  simp only [hz]
  exact max_real (n := 4096) (by decide) fun k => z (ix3 (j 0) (j 1) k)

/-- The share of an exponential of a real in its row's is a real. -/
theorem rowShare_real {e : (⟨S256x20x4096, .f32⟩ : BufTy).Contents (Elt Ideal)} (y : S256x20x4096.Idx → ℝ)
    (he : ∀ i, e i = Ideal.exp (y i : EReal)) (i : S256x20x4096.Idx) : ∃ r : ℝ, rowShare e i = (r : EReal) := by
  unfold rowShare
  pointwise
  simp only [he]
  have := quotient_real (by decide) (fun k => y (ix3 (i 0) (i 1) k)) (i 2)
  simpa only [ix3_eta] using this

/-- The softmax along the last axis of real numbers is a real number at every place. -/
theorem softmax_real {x : (⟨S256x20x4096, .f32⟩ : BufTy).Contents (Elt Ideal)} (hx : ∀ i, ∃ r : ℝ, x i = (r : EReal)) (i : S256x20x4096.Idx) :
    ∃ r : ℝ, rowShare (Host.exp (F := Ideal) (φ := .f32) (subf (F := Ideal) (φ := .f32) x (spread (greatest x)))) i = (r : EReal) := by
  choose z hz using hx
  choose mx hm using greatest_real (fun i => ⟨z i, hz i⟩)
  refine rowShare_real (fun i => z i - mx (ix2 (i 0) (i 1))) (fun j => ?_) i
  pointwise
  rw [hz, spread_eq, hm, EReal.coe_sub]

/-- Where the logits are real numbers, the soft part is one at every place. -/
theorem soft_eq {d : Dev nD} (h : All (Good V) (line (F := Ideal) d).1)
    (hx : ∀ i, ∃ r : ℝ, V (Proc.devRef .tc main_arg0) i = (r : EReal)) (i : S256x20x4096.Idx) :
    ∃ r : ℝ, V (Proc.devRef .tc main_v42) i = (r : EReal) := by
  obtain ⟨-, -, -, -, -, -, -, -, -, -, h⟩ := h
  obtain ⟨-, h⟩ := All.append (xs := (split (F := Ideal) (.of main_v6) main_call0).1) h
  obtain ⟨-, -, -, -, -, -, -, h⟩ := h
  obtain ⟨-, h⟩ := All.append (xs := (uniform (F := Ideal) (.of main_v9) (.of main_cst) (.of main_cst_2) main_call1).1) h
  obtain ⟨-, -, -, -, -, -, -, -, h⟩ := h
  obtain ⟨-, h⟩ := All.append (xs := (argmax (F := Ideal) (.of main_v20) main_call2).1) h
  obtain ⟨-, h⟩ := All.append (xs := (oneHot (F := Ideal) (.of main_v21) main_call3).1) h
  obtain ⟨-, hcst4, hcst5, h⟩ := h
  obtain ⟨hu, h⟩ := All.append (xs := (uniformSoft (F := Ideal) (.of main_v11) (.of main_cst_4) (.of main_cst_5) main_call4).1) h
  have u := uniformSoft_eq hu
  clear hu
  obtain ⟨h25, h26, h27, h28, h29, hcst6, h30, h31, hcst7, h32, hcst8, h33, h34, h35, h36, h37, h38, hcst9, h39, h40, h41, h42, -⟩ := h
  have n28 : ∀ j, ∃ r : ℝ, V (Proc.devRef .tc main_v28) j = (r : EReal) := by
    intro j
    obtain ⟨w, hw⟩ := u j
    have a0 : V (Proc.devRef .tc main_cst_4) ix0 = Ideal.ofBits .f32 786163455#32 := by rw [good_nullary hcst4]; pointwise
    have b1 : V (Proc.devRef .tc main_cst_5) ix0 = (1 : EReal) := by rw [good_nullary hcst5]; pointwise
    have key : ∀ (lo hi : EReal), lo = Ideal.ofBits .f32 786163455#32 → hi = 1 →
        ∃ r : ℝ, max lo (flt w * (hi - lo) + lo) = (r : EReal) ∧ 0 < r ∧ r < 1 := by
      rintro _ _ rfl rfl
      exact bounded_eq w
    obtain ⟨r, hr, r0, r1⟩ := key _ _ a0 b1
    have v24 : V (Proc.devRef .tc main_v24) j = (r : EReal) := hw.trans hr
    rw [good_unary h28, good_unary h27, good_unary h26, good_unary h25]
    pointwise
    rw [v24]
    exact noise_eq r0 r1
  have z31 : ∀ j, ∃ r : ℝ, V (Proc.devRef .tc main_v31) j = (r : EReal) := by
    intro j
    rw [good_binary h31, good_binary h29, good_unary h30, good_nullary hcst6]
    pointwise
    exact div_real (hx j) (n28 j) tau_eq
  have e : V (Proc.devRef .tc main_v42) = rowShare (Host.exp (F := Ideal) (φ := .f32) (subf (F := Ideal) (φ := .f32)
      (V (Proc.devRef .tc main_v31)) (spread (greatest (V (Proc.devRef .tc main_v31)))))) := by
    rw [good_binary h42, good_unary h41, good_unary h40, good_binary h39, good_nullary hcst9, good_unary h38, good_binary h37,
      good_unary h36, good_unary h35, good_binary h34, good_unary h33, good_nullary hcst8, good_binary h32, good_nullary hcst7]
    rfl
  rw [e]
  exact softmax_real z31 i

end Cert.ReferenceIdeal.Line

end
-- ==== Proof.Result.lean ====
/- The reference's result: the one-hot row of the first category of greatest score, where the logits are real numbers. -/
module

public import proofs.«01_k».proof.Proof.Reference
public import proofs.«01_k».proof.Proof.Soft

@[expose] public section

set_option maxRecDepth 100000

noncomputable section

namespace Cert.Spec

open Idealize.ShloMosaic Cert.First

/-- The first category of greatest score at a place. -/
def best (x : Fin 20 → EReal) (b l : Nat) : Fin 20 := (exists_isFirst (score x b l)).choose

theorem best_isFirst (x : Fin 20 → EReal) (b l : Nat) : IsFirst (score x b l) (best x b l) := (exists_isFirst (score x b l)).choose_spec

/-- The one-hot array both programs give for the logits `x`. -/
def sampled (x : (⟨⟨3, ![256, 20, 4096]⟩, .f32⟩ : BufTy).Contents (Elt Ideal)) : (⟨⟨3, ![256, 20, 4096]⟩, .f32⟩ : BufTy).Contents (Elt Ideal) :=
  fun i => if (i 1).val = (best (fun c => x (ix3 (i 0) c (i 2))) (i 0).val (i 2).val).val then (1 : EReal) else 0

end Cert.Spec

namespace Cert.ReferenceIdeal.Line

open Cert.ReferenceIdeal Cert.ReferenceIdeal.Gen Cert.Ssa Cert.First Cert.Spec Idealize.ShloMosaic Idealize.ShloMosaic.StableHlo Idealize.SL.Sem

variable {V : Valuation τ sig (Elt Ideal)}

/-- A real number and what it lacks to another value make that value. -/
theorem add_lack (s : ℝ) (o : EReal) : (s : EReal) + (o - s) = o := by
  rw [add_comm, EReal.sub_add_cancel]

/-- Where the logits are real numbers, the result is the one-hot array. -/
theorem result_eq {d : Dev nD} (h : All (Good V) (line (F := Ideal) d).1)
    (hx : ∀ i, ∃ r : ℝ, V (Proc.devRef .tc main_arg0) i = (r : EReal)) :
    V (Proc.devRef .tc main_v44) = sampled (V (Proc.devRef .tc main_arg0)) := by
  funext i
  have o := sample_eq h i (best_isFirst _ _ _)
  obtain ⟨s, hs⟩ := soft_eq h hx i
  obtain ⟨-, -, -, -, -, -, -, -, -, -, h⟩ := h
  obtain ⟨-, h⟩ := All.append (xs := (split (F := Ideal) (.of main_v6) main_call0).1) h
  obtain ⟨-, -, -, -, -, -, -, h⟩ := h
  obtain ⟨-, h⟩ := All.append (xs := (uniform (F := Ideal) (.of main_v9) (.of main_cst) (.of main_cst_2) main_call1).1) h
  obtain ⟨-, -, -, -, -, -, -, -, h⟩ := h
  obtain ⟨-, h⟩ := All.append (xs := (argmax (F := Ideal) (.of main_v20) main_call2).1) h
  obtain ⟨-, h⟩ := All.append (xs := (oneHot (F := Ideal) (.of main_v21) main_call3).1) h
  obtain ⟨-, -, -, h⟩ := h
  obtain ⟨-, h⟩ := All.append (xs := (uniformSoft (F := Ideal) (.of main_v11) (.of main_cst_4) (.of main_cst_5) main_call4).1) h
  obtain ⟨-, -, -, -, -, -, -, -, -, -, -, -, -, -, -, -, -, -, -, -, -, -, h43, h44, -⟩ := h
  rw [good_binary h44, good_binary h43]
  pointwise
  rw [hs, o, add_lack]
  rfl

end Cert.ReferenceIdeal.Line

end
-- ==== Proof.Rounds.lean ====
/- The kernel's vectors of generator words, read as the twenty rounds at each of their places. -/
module

public import proofs.«01_k».proof.Proof.Gen.KernelIdeal.Frame
public import proofs.«01_k».proof.Proof.Spec

@[expose] public section

noncomputable section

namespace Cert.KernelIdeal.Draws

open Cert.KernelIdeal Cert.KernelIdeal.Gen Cert.Threefry Cert.Floats Cert.Spec Idealize.ShloMosaic

variable {A B : IVec S160x4096 32} {p : S160x4096.Idx → BitVec 32 × BitVec 32}

/-- The rotation and exclusive or of a round on vectors. -/
abbrev turn (A' B : IVec S160x4096 32) (r s : BitVec 32) : IVec S160x4096 32 :=
  xori (ori (shli B (broadcast S160x4096 r)) (shrui B (broadcast S160x4096 s))) A'

/-- The additions to the second word of an injection on vectors. -/
abbrev load (B : IVec S160x4096 32) (y n : BitVec 32) : IVec S160x4096 32 :=
  addi (addi B (broadcast S160x4096 y)) (broadcast S160x4096 n)

/-- A round on vectors is one at every place. -/
theorem step (r s : BitVec 32) (hp : ∀ i, (A i, B i) = p i) (hr : r.toNat < 32 := by decide) (hs : s.toNat < 32 := by decide) :
    ∀ i, (addi A B i, turn (addi A B) B r s i) = rnd r s (p i) := by
  intro i
  rw [← hp]
  simp only [rnd]
  refine Prod.ext rfl ?_
  show IntOp.xori (IntOp.ori (IntOp.shli _ _ r) (IntOp.shrui _ _ s)) _ = _
  rw [IntOp.shli, IntOp.shrui, if_pos hr, if_pos hs]
  exact BitVec.xor_comm _ _

/-- An injection on vectors is one at every place. -/
theorem inject (x y n : BitVec 32) (hp : ∀ i, (A i, B i) = p i) :
    ∀ i, (addi A (broadcast S160x4096 x) i, load B y n i) = inj x y n (p i) := by
  intro i
  rw [← hp]
  rfl

/-- The first part's words: the first round after the first injection. -/
theorem part2 (hp : ∀ i, (A i, B i) = p i) :
    ∀ i, (k0_pay12 A B i, k0_pay13 A B i) = rnd 17#32 15#32 (inj 270669613#32 1724713080#32 1#32 (even (p i))) := by
  have h1 : ∀ i, (k0_pay4 A B i, k0_pay5 A B i) = _ := step 13#32 19#32 hp
  have h2 : ∀ i, (k0_pay6 A B i, k0_pay7 A B i) = _ := step 15#32 17#32 h1
  have h3 : ∀ i, (k0_pay8 A B i, k0_pay9 A B i) = _ := step 26#32 6#32 h2
  have h4 : ∀ i, (k0_pay10 A B i, turn (k0_pay10 A B) (k0_pay9 A B) 6#32 26#32 i) = _ := step 6#32 26#32 h3
  have h5 : ∀ i, (addi (k0_pay10 A B) (broadcast S160x4096 270669613#32) i, k0_pay11 A B i) = _ := inject _ 1724713080#32 1#32 h4
  exact step 17#32 15#32 h5

/-- The second part's words: from the second round of the second kind to the third round of the third. -/
theorem part3 (hp : ∀ i, (A i, B i) = p i) :
    ∀ i, (k0_pay26 B (addi A B) (shli B (broadcast S160x4096 29#32)) k0_pay16 i,
        k0_pay27 B (addi A B) (shli B (broadcast S160x4096 29#32)) k0_pay16 i)
      = rnd 26#32 6#32 (rnd 15#32 17#32 (rnd 13#32 19#32 (inj 1724713080#32 1832780943#32 2#32
          (rnd 24#32 8#32 (rnd 16#32 16#32 (rnd 29#32 3#32 (p i))))))) := by
  generalize hC : addi A B = C
  generalize hD : shli B (broadcast S160x4096 29#32) = D
  have h1 : ∀ i, (C i, k0_pay17 B C D k0_pay16 i) = rnd 29#32 3#32 (p i) := by subst hC hD; exact step 29#32 3#32 hp
  have h2 : ∀ i, (k0_pay18 B C D k0_pay16 i, k0_pay19 B C D k0_pay16 i) = _ := step 16#32 16#32 h1
  have h3 : ∀ i, (k0_pay20 B C D k0_pay16 i, turn (k0_pay20 B C D k0_pay16) (k0_pay19 B C D k0_pay16) 24#32 8#32 i) = _ := step 24#32 8#32 h2
  have h4 : ∀ i, (addi (k0_pay20 B C D k0_pay16) (broadcast S160x4096 1724713080#32) i, k0_pay21 B C D k0_pay16 i) = _ :=
    inject _ 1832780943#32 2#32 h3
  have h5 : ∀ i, (k0_pay22 B C D k0_pay16 i, k0_pay23 B C D k0_pay16 i) = _ := step 13#32 19#32 h4
  have h6 : ∀ i, (k0_pay24 B C D k0_pay16 i, k0_pay25 B C D k0_pay16 i) = _ := step 15#32 17#32 h5
  exact step 26#32 6#32 h6

/-- The third part's words: to the fourth injection. -/
theorem part4 (hp : ∀ i, (A i, B i) = p i) :
    ∀ i, (k0_pay38 B (addi A B) k0_pay29 i, k0_pay39 B (addi A B) k0_pay29 i)
      = inj 270669613#32 1724713080#32 4#32 (odd (inj 1832780943#32 270669613#32 3#32 (rnd 6#32 26#32 (p i)))) := by
  generalize hC : addi A B = C
  have h1 : ∀ i, (C i, turn C B 6#32 26#32 i) = rnd 6#32 26#32 (p i) := by subst hC; exact step 6#32 26#32 hp
  have h2 : ∀ i, (addi C (broadcast S160x4096 1832780943#32) i, k0_pay30 B C k0_pay29 i) = _ := inject _ 270669613#32 3#32 h1
  have h3 : ∀ i, (k0_pay31 B C k0_pay29 i, k0_pay32 B C k0_pay29 i) = _ := step 17#32 15#32 h2
  have h4 : ∀ i, (k0_pay33 B C k0_pay29 i, k0_pay34 B C k0_pay29 i) = _ := step 29#32 3#32 h3
  have h5 : ∀ i, (k0_pay35 B C k0_pay29 i, k0_pay36 B C k0_pay29 i) = _ := step 16#32 16#32 h4
  have h6 : ∀ i, (k0_pay37 B C k0_pay29 i, turn (k0_pay37 B C k0_pay29) (k0_pay36 B C k0_pay29) 24#32 8#32 i) = _ := step 24#32 8#32 h5
  exact inject 270669613#32 1724713080#32 4#32 h6

/-- The logarithm of the number of a word, its zeros raised. -/
theorem number (W : IVec S160x4096 32) (i : S160x4096.Idx) :
    log (F := Ideal) (φ := .f32) (maximumf (subf (bitcastToFloat .f32 (ori (shrui W (broadcast S160x4096 9#32)) (broadcast S160x4096 1065353216#32)))
        (broadcast S160x4096 (Scalar.ofBits .f32 0x3F800000#32))) (broadcast S160x4096 (Scalar.ofBits .f32 0x00800000#32))) i
      = Ideal.log (max (flt (W i)) (Ideal.ofBits .f32 8388608#32)) := by
  have h1 : Ideal.ofBits .f32 0x3F800000#32 = 1 := by
    obtain h := normal (b := 0x3F800000#32) (ex := 127) (fr := 0) (by decide) (by decide) (by decide) (by decide) (by decide)
    rw [h]; norm_num
  show Ideal.log (max (Ideal.ofBits .f32 (IntOp.ori (IntOp.shrui _ (W i) 9#32) 1065353216#32) - Ideal.ofBits .f32 0x3F800000#32) (Ideal.ofBits .f32 8388608#32)) = _
  rw [IntOp.shrui, if_pos (by decide), h1]
  rfl

/-- The last part: the number made of the words after the last rounds and injection, and its logarithm. -/
theorem part5 (hp : ∀ i, (A i, B i) = p i) :
    ∀ i, k0_pay40 (F := Ideal) A B i
      = Ideal.log (max (flt (word (inj 1724713080#32 1832780943#32 5#32 (even (p i))))) (Ideal.ofBits .f32 8388608#32)) := by
  have h1 := step 13#32 19#32 hp
  have h2 := step 15#32 17#32 h1
  have h3 := step 26#32 6#32 h2
  have h4 := inject 1724713080#32 1832780943#32 5#32 (step 6#32 26#32 h3)
  intro i
  refine Eq.trans ?_ (congrArg (fun q => Ideal.log (max (flt (word q)) (Ideal.ofBits .f32 8388608#32))) (h4 i))
  exact number (xori _ _) i

end Cert.KernelIdeal.Draws

end
-- ==== Proof.Logs.lean ====
/- The kernel's vector of logarithms: at each place the logarithm of the place's uniform number. -/
module

public import proofs.«01_k».proof.Proof.Rounds

@[expose] public section

noncomputable section

namespace Cert.KernelIdeal.Draws

open Cert.KernelIdeal Cert.KernelIdeal.Gen Cert.Threefry Cert.Floats Cert.Spec Idealize.ShloMosaic

/-- The quotient by twenty the kernel makes of a row's number, rounded down by its signs. -/
theorem quotient_eq : ∀ r : Fin 160, Scalar.select
    (IntOp.andi
      (IntOp.cmpi CmpIPredicate.ne
        (IntOp.subi (BitVec.setWidth 32 (IntOp.cmpi CmpIPredicate.sgt (BitVec.ofNat 32 r.val) 0#32))
          (BitVec.setWidth 32 (IntOp.cmpi CmpIPredicate.slt (BitVec.ofNat 32 r.val) 0#32)))
        (Scalar.subi (Scalar.extui (Scalar.cmpi CmpIPredicate.sgt 20#32 0#32)) (Scalar.extui (Scalar.cmpi CmpIPredicate.slt 20#32 0#32))))
      (IntOp.cmpi CmpIPredicate.ne (IntOp.remsi ArithUnit.vector (BitVec.ofNat 32 r.val) 20#32) 0#32))
    (IntOp.subi (IntOp.divsi ArithUnit.vector (BitVec.ofNat 32 r.val) 20#32) 1#32)
    (IntOp.divsi ArithUnit.vector (BitVec.ofNat 32 r.val) 20#32) = BitVec.ofNat 32 (r.val / 20) := by
  decide +kernel

/-- The second word before the rounds: the place's counter and the second key word. -/
theorem counter_eq (g : grid0.Coords) (k : Fin 8) (c : Fin 20) (l : Fin 4096) (h : 20 * k.val + c.val < 160) :
    k0_pay3 g (ix2 ⟨20 * k.val + c.val, h⟩ l) = place (8 * (g 0).val + k.val) l.val c.val + 270669613#32 := by
  have h0 : (g 0).val < 32 := (g 0).isLt
  have h1 : (g 1).val = 0 := Nat.lt_one_iff.mp (g 1).isLt
  unfold k0_pay3
  pointwise
  rw [quotient_eq ⟨20 * k.val + c.val, h⟩]
  have hk : (20 * k.val + c.val) / 20 = k.val := by omega
  show ((((BitVec.ofNat 32 (g 0).val * BitVec.ofNat 32 655360 + BitVec.ofNat 32 0 * BitVec.ofNat 32 81920) + BitVec.ofNat 32 (20 * k.val + c.val))
    + BitVec.ofNat 32 ((20 * k.val + c.val) / 20) * BitVec.ofNat 32 81900) + BitVec.ofNat 32 l.val * BitVec.ofNat 32 20) + 270669613#32 = _
  rw [hk]
  refine congrArg (· + 270669613#32) ?_
  unfold place
  simp only [← BitVec.ofNat_mul, ← BitVec.ofNat_add]
  refine congrArg (BitVec.ofNat 32) ?_
  ring

/-- The logarithms the kernel makes of the words at all places. -/
theorem logs_of {g : grid0.Coords} {x0 : Vec Ideal S8x20x4096 .f32} (i : S160x4096.Idx) :
    k0_pay60 g x0 i = Ideal.log (max (flt (word (core 1832780943#32 270669613#32 1724713080#32 (1832780943#32, k0_pay3 g i)))) (Ideal.ofBits .f32 8388608#32)) := by
  have h0 : ∀ i, (k0_pay51 g x0 i, k0_pay52 g x0 i) = (1832780943#32, k0_pay3 g i) := fun i =>
    Prod.ext (show (0#32 : BitVec 32) + 1832780943#32 = 1832780943#32 by decide) rfl
  have h1 := part2 h0
  have h2 : ∀ i, (k0_pay26 (k0_pay53 g x0) (k0_pay54 g x0) (k0_pay55 g x0) (k0_pay56 g x0) i, k0_pay57 g x0 i) = _ := part3 h1
  have h3 : ∀ i, (k0_pay38 (k0_pay57 g x0) (k0_pay58 g x0) (k0_pay59 g x0) i, k0_pay39 (k0_pay57 g x0) (k0_pay58 g x0) (k0_pay59 g x0) i) = _ := part4 h2
  exact part5 h3 i

/-- The logarithm at a place is that of its uniform number. -/
theorem logs_eq {g : grid0.Coords} {x0 : Vec Ideal S8x20x4096 .f32} (k : Fin 8) (c : Fin 20) (l : Fin 4096) (h : 20 * k.val + c.val < 160) :
    k0_pay60 g x0 (ix2 ⟨20 * k.val + c.val, h⟩ l) = Ideal.log (unif (8 * (g 0).val + k.val) l.val c.val) := by
  rw [logs_of, counter_eq]
  unfold unif tf
  rw [show (1832780943#32 ^^^ 270669613#32 ^^^ 466688986#32) = 1724713080#32 by decide, show (0#32 + 1832780943#32) = 1832780943#32 by decide]

end Cert.KernelIdeal.Draws

end
-- ==== Proof.Pick.lean ====
/- The kernel's choice of the first greatest value along the categories, and what it stores for one batch. -/
module

public import proofs.«01_k».proof.Proof.Logs
public import proofs.«01_k».proof.Proof.First

@[expose] public section

noncomputable section

namespace Cert.KernelIdeal.Draws

open Cert.KernelIdeal Cert.KernelIdeal.Gen Cert.First Cert.Floats Cert.Spec Idealize.ShloMosaic

/-- The one-hot vector of the first greatest value in each column, as the kernel computes it. -/
def pick (w : FVec Ideal S20x4096 .f32) : FVec Ideal S20x4096 .f32 :=
  sitofp .f32 (extui 32 (cmpi .eq (iota .tc S20x4096 32 [0] iota_S20x4096_d0_w32)
    (broadcastTo S20x4096 (shapeCast S1x4096 (multiReductionI .minsi [0] S4096
      (select (cmpf .oeq w (broadcastTo S20x4096 (shapeCast S1x4096 (multiReduction .maximumf [0] S4096 w 0xFF800000#32 reduces_S20x4096_S4096 (.inl rfl) rfl)
          shapeCasts_S4096_S1x4096) broadcasts_S1x4096_S20x4096))
        (iota .tc S20x4096 32 [0] iota_S20x4096_d0_w32) (broadcast S20x4096 20#32))
      2147483647#32 reduces_S20x4096_S4096 rfl) shapeCasts_S4096_S1x4096) broadcasts_S1x4096_S20x4096)) natLt_1_32)

/-- The choice at a place is one at the first category of greatest value and zero elsewhere. -/
theorem pick_eq {w : FVec Ideal S20x4096 .f32} (c : Fin 20) (l : Fin 4096) {g : Fin 20} (hg : IsFirst (fun c => (w (ix2 c l) : EReal)) g) :
    pick w (ix2 c l) = if c.val = g.val then (1 : EReal) else 0 := by
  unfold pick
  pointwise
  rw [negInf_eq, fold_max_eq hg, fold_min_eq hg (fun x => rfl), cmpi_small c.isLt g.isLt]
  by_cases h : c.val = g.val
  · rw [if_pos h, decide_eq_true h]; show (((1 : Int) : ℝ) : EReal) = 1; norm_num
  · rw [if_neg h, decide_eq_false h]; show (((0 : Int) : ℝ) : EReal) = 0; norm_num

/-- What the kernel stores for one batch of the block: the choice made of the batch's logits less the batch's rows of the logarithms `n`. -/
def row (n : FVec Ideal S160x4096 .f32) (x : FVec Ideal S1x20x4096 .f32) (o : Fin 2 → Nat) (h : S160x4096.Slices o S20x4096) : FVec Ideal S1x20x4096 .f32 :=
  shapeCast S1x20x4096 (pick (subf (shapeCast S20x4096 x shapeCasts_S1x20x4096_S20x4096) (extractStridedSlice S20x4096 o n h))) shapeCasts_S20x4096_S1x20x4096

/-- It is the one-hot of the first category whose logit less its logarithm is greatest. -/
theorem row_of {n : FVec Ideal S160x4096 .f32} {x : FVec Ideal S1x20x4096 .f32} {k : Fin 8}
    {h : S160x4096.Slices ![20 * k.val, 0] S20x4096} {c : Fin 20} {l : Fin 4096} {f : Fin 20}
    (hf : IsFirst (fun c : Fin 20 => (x (ix3 0 c l) - n (ix2 ⟨20 * k.val + c.val, by omega⟩ l) : EReal)) f) :
    row n x ![20 * k.val, 0] h (ix3 0 c l) = if c.val = f.val then (1 : EReal) else 0 := by
  unfold row
  pointwise
  refine pick_eq c l ?_
  convert hf using 1
  funext c
  pointwise

/-- The second logarithm, of the first one's negative. -/
theorem second_log (n : FVec Ideal S160x4096 .f32) (i : S160x4096.Idx) : k0_pay41 n i = Ideal.log (-n i) := by
  unfold k0_pay41
  pointwise
  rw [zero_sub]

/-- It is the one-hot of the first category of greatest score. -/
theorem row_eq (g : grid0.Coords) (x0 : Vec Ideal S8x20x4096 .f32) (x : FVec Ideal S1x20x4096 .f32) (k : Fin 8)
    (h : S160x4096.Slices ![20 * k.val, 0] S20x4096) (c : Fin 20) (l : Fin 4096) {f : Fin 20}
    (hf : IsFirst (score (fun c => x (ix3 0 c l)) (8 * (g 0).val + k.val) l.val) f) :
    row (k0_pay62 g x0) x ![20 * k.val, 0] h (ix3 0 c l) = if c.val = f.val then (1 : EReal) else 0 := by
  refine row_of (n := k0_pay62 g x0) ?_
  have e : (fun c : Fin 20 => (x (ix3 0 c l) - k0_pay62 g x0 (ix2 ⟨20 * k.val + c.val, by omega⟩ l) : EReal))
      = score (fun c => x (ix3 0 c l)) (8 * (g 0).val + k.val) l.val := by
    funext c
    unfold k0_pay62
    rw [second_log, logs_eq]
    unfold score
    rw [sub_eq_add_neg, add_comm]
  rw [e]
  exact hf

end Cert.KernelIdeal.Draws

end
-- ==== Proof.Block.lean ====
/- What one grid point of the kernel stores: the block of the one-hot array its eight batches have. -/
module

public import proofs.«01_k».proof.Proof.Pick
public import proofs.«01_k».proof.Proof.Result
public import Idealize.ShloMosaic.Lib.Pipeline.ValueKit

@[expose] public section

set_option maxRecDepth 16384

noncomputable section

namespace Cert.KernelIdeal.Draws

open Cert.KernelIdeal Cert.KernelIdeal.Gen Cert.First Cert.Floats Cert.Spec Idealize.ShloMosaic

/-- The place of a block's one-hot value at grid point `b`, from the block's logits. -/
def hot (b : Nat) (x0 : Vec Ideal S8x20x4096 .f32) (y : S8x20x4096.Idx) : EReal :=
  if (y 1).val = (best (fun c => x0 (ix3 (y 0) c (y 2))) (8 * b + (y 0).val) (y 2).val).val then (1 : EReal) else 0

/-- What is stored for batch `k` of the block is the block's one-hot value there, when the logits it is made of are those of that batch. -/
theorem row_at (g : grid0.Coords) (x0 : Vec Ideal S8x20x4096 .f32) (x : FVec Ideal S1x20x4096 .f32) (k : Fin 8)
    (h : S160x4096.Slices ![20 * k.val, 0] S20x4096) (i : S1x20x4096.Idx) (y : S8x20x4096.Idx)
    (h0 : (y 0).val = k.val) (h1 : (y 1).val = (i 1).val) (h2 : (y 2).val = (i 2).val)
    (hx : ∀ c : Fin 20, x (ix3 0 c (y 2)) = x0 (ix3 (y 0) c (y 2))) :
    row (k0_pay62 g x0) x ![20 * k.val, 0] h i = hot (g 0).val x0 y := by
  have e : i = ix3 0 (i 1) (i 2) := by
    funext a
    match a with
    | ⟨0, _⟩ => exact Subsingleton.elim (α := Fin 1) _ _
    | ⟨1, _⟩ => rfl
    | ⟨2, _⟩ => rfl
  have e2 : y 2 = i 2 := Fin.ext h2
  have f := best_isFirst (fun c => x (ix3 0 c (i 2))) (8 * (g 0).val + k.val) (i 2).val
  refine (congrArg (row (k0_pay62 g x0) x ![20 * k.val, 0] h) e).trans ((row_eq g x0 x k h (i 1) (i 2) f).trans ?_)
  have hx' : (fun c : Fin 20 => x (ix3 0 c (i 2))) = fun c => x0 (ix3 (y 0) c (y 2)) := by rw [← e2]; exact funext hx
  unfold hot
  rw [hx', h0, h1, h2]

/-- The place batch `k` of the block has in it. -/
theorem place {k : Nat} (inb : ∀ a, (![k, 0, 0] : Fin 3 → Nat) a + S1x20x4096.size a ≤ S8x20x4096.size a) (b : Fin 8) (hb : b.val = k)
    (c : Fin 20) (l : Fin 4096) :
    (Rect.unit (s := S8x20x4096) ![k, 0, 0] S1x20x4096.size inb).idx (ix3 0 c l) = ix3 b c l := by
  funext a
  match a with
  | ⟨0, _⟩ => exact Fin.ext ((Rect.idx_unit_val ..).trans hb.symm)
  | ⟨1, _⟩ => exact Fin.ext ((Rect.idx_unit_val ..).trans (Nat.zero_add _))
  | ⟨2, _⟩ => exact Fin.ext ((Rect.idx_unit_val ..).trans (Nat.zero_add _))

/-- The block a grid point stores, at any place of it. -/
theorem block_eq (g : grid0.Coords) (x0 : Vec Ideal S8x20x4096 .f32) (y : S8x20x4096.Idx) : out0_1 g x0 y = hot (g 0).val x0 y := by
  canon_tiles i h
  · exact row_at g x0 (View.ld x0 r0_7) 7 _ i y (by omega) (by omega) (by omega) (fun c => congrArg x0 (place _ (y 0) (by omega) c (y 2)))
  · exact row_at g x0 (View.ld x0 r0_6) 6 _ i y (by omega) (by omega) (by omega) (fun c => congrArg x0 (place _ (y 0) (by omega) c (y 2)))
  · exact row_at g x0 (View.ld x0 r0_5) 5 _ i y (by omega) (by omega) (by omega) (fun c => congrArg x0 (place _ (y 0) (by omega) c (y 2)))
  · exact row_at g x0 (View.ld x0 r0_4) 4 _ i y (by omega) (by omega) (by omega) (fun c => congrArg x0 (place _ (y 0) (by omega) c (y 2)))
  · exact row_at g x0 (View.ld x0 r0_3) 3 _ i y (by omega) (by omega) (by omega) (fun c => congrArg x0 (place _ (y 0) (by omega) c (y 2)))
  · exact row_at g x0 (View.ld x0 r0_2) 2 _ i y (by omega) (by omega) (by omega) (fun c => congrArg x0 (place _ (y 0) (by omega) c (y 2)))
  · exact row_at g x0 (View.ld x0 r0_1) 1 _ i y (by omega) (by omega) (by omega) (fun c => congrArg x0 (place _ (y 0) (by omega) c (y 2)))
  · exact row_at g x0 (View.ld x0 r0_0) 0 _ i y (by omega) (by omega) (by omega) (fun c => congrArg x0 (place _ (y 0) (by omega) c (y 2)))

end Cert.KernelIdeal.Draws

end
-- ==== Proof.Array.lean ====
/- The array the kernel leaves: the one-hot array of its logits. -/
module

public import proofs.«01_k».proof.Proof.Block

@[expose] public section

set_option maxRecDepth 16384

noncomputable section

namespace Cert.KernelIdeal.Draws

open Cert.KernelIdeal Cert.KernelIdeal.Gen Cert.First Cert.Floats Cert.Spec Idealize.ShloMosaic Idealize.SL.Sem

variable (m : (l : Loc nD τ sig) → Buf (Elt Ideal) l)

/-- A grid point reads the batches its number names. -/
theorem index_in : ∀ t : Fin grid0.N, win0_0.index t = ![(grid0.coords t 0).val, 0, 0] := by decide +kernel

/-- A grid point stores the batches its number names. -/
theorem index_out : ∀ t : Fin grid0.N, win0_1.index t = ![(grid0.coords t 0).val, 0, 0] := by decide +kernel

/-- A block's one-hot value is the array's at the place the block gives it. -/
theorem hot_eq {b : Nat} {x0 : Vec Ideal S8x20x4096 .f32} {x : Vec Ideal S256x20x4096 .f32} {y : S8x20x4096.Idx} {z : S256x20x4096.Idx}
    (h0 : (z 0).val = b * 8 + (y 0).val) (h1 : (z 1).val = (y 1).val) (h2 : (z 2).val = (y 2).val)
    (hx : ∀ c : Fin 20, x0 (ix3 (y 0) c (y 2)) = x (ix3 (z 0) c (z 2))) : hot b x0 y = sampled x z := by
  unfold hot sampled
  rw [h0, h1, h2, funext hx, Nat.mul_comm b]

/-- The logits a grid point reads are the array's at the places its block of the result has. -/
theorem read_eq (c : Dev nD) (t : Fin cfg0.N) (y : S8x20x4096.Idx) (k : Fin 20) :
    iblk m c 0 t (ix3 (y 0) k (y 2)) =
      m ((c.tc : Thread nD τ).loc main_arg0) (ix3 ((win0_1.blk t).view.emb y 0) k ((win0_1.blk t).view.emb y 2)) := by
  unfold iblk
  rw [← V_main_arg0 m c]
  refine congrArg (V m c main_arg0) ?_
  blk_ext [index_in, index_out]

/-- The result's array after the run is the one-hot array of the logits. -/
theorem array_eq (c : Dev nD) : (dats m 0 c).arrAt 1 cfg0.N = sampled (m ((c.tc : Thread nD τ).loc main_arg0)) := by
  refine (dats m 0 c).arrAt_eq_of_covers 1 _ (by decide +kernel) fun t hf y => ?_
  blk_simp
  rw [after0_1, block_eq]
  refine hot_eq ?_ ?_ ?_ (read_eq m c t y)
  · blk_simp [index_out]
  · blk_simp [index_out]
  · blk_simp [index_out]

end Cert.KernelIdeal.Draws

end
-- ==== Proof.lean ====
module

public import proofs.«01_k».proof.Defs
public import proofs.«01_k».proof.Proof.Gen.Kernel.Frame
public import proofs.«01_k».proof.Proof.Gen.KernelIdeal.Frame
public import proofs.«01_k».proof.Proof.Order
public import proofs.«01_k».proof.Proof.Finite
public import proofs.«01_k».proof.Proof.Result
public import proofs.«01_k».proof.Proof.Array
public import Idealize.ShloMosaic.Adequacy
public import Idealize.ShloMosaic.Init

@[expose] public section

noncomputable section

namespace Cert.Proof

open Idealize.ShloMosaic Idealize.SL.Sem Cert.Spec

/-- The kernel runs, keeps its argument and ends with every counter at zero. -/
theorem frameKernel : Cert.quiescent_Kernel := fun m ρ _ => Cert.Kernel.Gen.frame m ρ

/-- The same of the kernel over the reals. -/
theorem frameIdeal : Cert.quiescent_KernelIdeal := fun m ρ _ => Cert.KernelIdeal.Gen.frame m ρ

/-- The reference runs, keeps its argument and ends with every counter at zero. -/
theorem frameReference : Cert.quiescent_ReferenceIdeal := fun m ρ _ =>
  (θ_run Cert.ReferenceIdeal.defs _ _).mono
    (fun r h => ⟨fun c => (h c _).trans (Cert.ReferenceIdeal.Line.fin_arg m c), sem_eq_zero_of_no_sems (by decide) r.2⟩)
    (Cert.ReferenceIdeal.Line.run (F := Ideal) m ρ)

/-- Over the reals the kernel ends with the one-hot array of its logits, and its argument kept. -/
theorem kernelRun (m : (l : Loc Cert.KernelIdeal.nD Cert.KernelIdeal.τ Cert.KernelIdeal.sig) → Buf (Elt Ideal) l)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v0)
            = sampled (m ((c.tc : Thread Cert.KernelIdeal.nD Cert.KernelIdeal.τ).loc Cert.KernelIdeal.main_arg0))
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)) := by
  run_from Cert.KernelIdeal.Gen.run_main m g
  exact Cert.KernelIdeal.Draws.array_eq m c

/-- From real logits the reference ends with the one-hot array of them, and its argument kept. -/
theorem referenceRun (m : (l : Loc Cert.ReferenceIdeal.nD Cert.ReferenceIdeal.τ Cert.ReferenceIdeal.sig) → Buf (Elt Ideal) l)
    (g : Dev Cert.ReferenceIdeal.nD → PrngReg)
    (hx : ∀ (c : Dev Cert.ReferenceIdeal.nD) (i : Cert.ReferenceIdeal.S256x20x4096.Idx), ∃ r : ℝ,
      (m ((c.tc : Thread Cert.ReferenceIdeal.nD Cert.ReferenceIdeal.τ).loc Cert.ReferenceIdeal.main_arg0) i : EReal) = (r : EReal)) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v44)
            = sampled (m ((c.tc : Thread Cert.ReferenceIdeal.nD Cert.ReferenceIdeal.τ).loc Cert.ReferenceIdeal.main_arg0))
          ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)) :=
  (θ_run Cert.ReferenceIdeal.defs _ _).mono
    (fun r h c => by
      have a := Cert.ReferenceIdeal.Line.fin_arg (F := Ideal) m c
      refine ⟨(h c _).trans ?_, (h c _).trans a⟩
      refine (Cert.ReferenceIdeal.Line.result_eq (Cert.ReferenceIdeal.Line.fin_good m c) fun i => ?_).trans (congrArg sampled a)
      rw [a]
      exact hx c i)
    (Cert.ReferenceIdeal.Line.run (F := Ideal) m g)

/-- From real logits the kernel and the reference end with equal results. -/
theorem equal : Cert.algebraic_KernelIdeal_ReferenceIdeal_pre_finite (hPre_finite := Cert.Pre_finite.facts) :=
  fun m g m' g' hpre hagree =>
    ⟨fun c => sampled (m ((c.tc : Thread Cert.KernelIdeal.nD Cert.KernelIdeal.τ).loc Cert.KernelIdeal.main_arg0)), kernelRun m g,
      (θ_run Cert.ReferenceIdeal.defs _ _).mono (fun r h c => ⟨(h c).1.trans (congrArg sampled (hagree c)), (h c).2⟩)
        (referenceRun m' g' fun c i => by
          rw [hagree c]
          exact @Cert.Pre_finite.real_of_fn Cert.Pre_finite.facts _ (hpre c) i)⟩

/-- Everything certified: the three frames, the idealization's preservation and the equality of the results. -/
theorem claim : Cert.Claim := ⟨Cert.Kernel.Gen.facts, Cert.KernelIdeal.Gen.facts, Cert.ReferenceIdeal.Gen.facts, Cert.Pre_finite.facts,
  frameKernel, frameIdeal, fun m ρ _ => frameIdeal m ρ trivial, frameReference, fun m ρ _ => frameReference m ρ trivial, trivial, equal⟩

end Cert.Proof

end
